-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S12 : Shape := ⟨1, ![12]⟩
abbrev S8 : Shape := ⟨1, ![8]⟩
abbrev S3x512x1024 : Shape := ⟨3, ![3, 512, 1024]⟩
abbrev S2x512x1024 : Shape := ⟨3, ![2, 512, 1024]⟩
abbrev S512x1024 : Shape := ⟨2, ![512, 1024]⟩
abbrev S3 : Shape := ⟨1, ![3]⟩
abbrev S2 : Shape := ⟨1, ![2]⟩
abbrev S_ : Shape := ⟨0, ![]⟩
abbrev S1 : Shape := ⟨1, ![1]⟩
abbrev S1x512x1024 : Shape := ⟨3, ![1, 512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .local _ .vmem, ⟨0, _⟩ => ⟨S3x512x1024, .f32⟩
  | .local _ .vmem, ⟨1, _⟩ => ⟨S2x512x1024, .bf16⟩
  | .local _ .vmem, ⟨2, _⟩ => ⟨S512x1024, .f32⟩
  | .local _ .vmem, ⟨3, _⟩ => ⟨S512x1024, .bf16⟩
  | .local _ .vmem, ⟨4, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_v1_0 : Ref sig .tc := ⟨.hbm, 1, rfl⟩
abbrev main_v1_1 : Ref sig .tc := ⟨.hbm, 2, rfl⟩
abbrev main_v1_2 : Ref sig .tc := ⟨.hbm, 3, rfl⟩
abbrev cc0_scratch6 : Ref sig .tc := ⟨.vmem, 0, rfl⟩
abbrev cc0_scratch7 : Ref sig .tc := ⟨.vmem, 1, rfl⟩
abbrev cc0_scratch8 : Ref sig .tc := ⟨.vmem, 2, rfl⟩
abbrev cc0_scratch9 : Ref sig .tc := ⟨.vmem, 3, rfl⟩
abbrev cc0_scratch10 : Ref sig .tc := ⟨.vmem, 4, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_13 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_12 : BitVec 32 := 8#32
  let v25 : BitVec 32 := Scalar.muli v19 c8_i32_12
  let v26 : BitVec 32 := Scalar.addi c0_i32_13 v25
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_14 : BitVec 32 := 4#32
  let v27 : BitVec 32 := Scalar.muli v5 c4_i32_14
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v29 : BitVec 32 := Scalar.muli v8 c1_i32_15
  let v30 : BitVec 32 := Scalar.addi v28 v29
  v30.toNat
def k0_dev2 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v31 : BitVec 32 := Scalar.muli v2 c8_i32_17
  let v32 : BitVec 32 := Scalar.addi c0_i32_18 v31
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_19 : BitVec 32 := 4#32
  let v33 : BitVec 32 := Scalar.muli v20 c4_i32_19
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v35 : BitVec 32 := Scalar.muli v8 c1_i32_20
  let v36 : BitVec 32 := Scalar.addi v34 v35
  v36.toNat
def k0_dev3 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v37 : BitVec 32 := Scalar.muli v2 c8_i32_22
  let v38 : BitVec 32 := Scalar.addi c0_i32_23 v37
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v39 : BitVec 32 := Scalar.muli v5 c4_i32_24
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_25 : BitVec 32 := 1#32
  let v41 : BitVec 32 := Scalar.muli v23 c1_i32_25
  let v42 : BitVec 32 := Scalar.addi v40 v41
  v42.toNat
def k0_off1 (d0 : Dev nD) (c0_i32_28 : BitVec 32) : Fin 2 → Nat :=
  let c2_i32_26 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v43 : BitVec 32 := Scalar.addi c2_i32_26 v18
  let c4_i32_27 : BitVec 32 := 4#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.muli c4_i32_27 v5
  let v45 : BitVec 32 := Scalar.addi v43 v44
  let v46 : BitVec 32 := Scalar.addi v45 c0_i32_28
  let c512_i32 : BitVec 32 := 512#32
  let v136 : BitVec 32 := Scalar.muli v46 c512_i32
  let c0_i32_102 : BitVec 32 := 0#32
  ![v136.toNat, 0]
def k0_off2 (d0 : Dev nD) (c0_i32_29 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v47 : BitVec 32 := Scalar.addi c0_i32_29 v18
  let c512_i32_103 : BitVec 32 := 512#32
  let v142 : BitVec 32 := Scalar.muli v47 c512_i32_103
  let c0_i32_108 : BitVec 32 := 0#32
  ![v142.toNat, 0]
def k0_dev4 (d0 : Dev nD) : Nat :=
  let c0_i32_163 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_162 : BitVec 32 := 8#32
  let v201 : BitVec 32 := Scalar.muli v19 c8_i32_162
  let v202 : BitVec 32 := Scalar.addi c0_i32_163 v201
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_164 : BitVec 32 := 4#32
  let v203 : BitVec 32 := Scalar.muli v5 c4_i32_164
  let v204 : BitVec 32 := Scalar.addi v202 v203
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v205 : BitVec 32 := Scalar.muli v8 c1_i32_165
  let v206 : BitVec 32 := Scalar.addi v204 v205
  v206.toNat
def k0_dev5 (d0 : Dev nD) : Nat :=
  let c0_i32_200 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_199 : BitVec 32 := 8#32
  let v243 : BitVec 32 := Scalar.muli v19 c8_i32_199
  let v244 : BitVec 32 := Scalar.addi c0_i32_200 v243
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_201 : BitVec 32 := 4#32
  let v245 : BitVec 32 := Scalar.muli v5 c4_i32_201
  let v246 : BitVec 32 := Scalar.addi v244 v245
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_202 : BitVec 32 := 1#32
  let v247 : BitVec 32 := Scalar.muli v8 c1_i32_202
  let v248 : BitVec 32 := Scalar.addi v246 v247
  v248.toNat
def k0_dev6 (d0 : Dev nD) : Nat :=
  let c0_i32_238 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_237 : BitVec 32 := 8#32
  let v285 : BitVec 32 := Scalar.muli v19 c8_i32_237
  let v286 : BitVec 32 := Scalar.addi c0_i32_238 v285
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_239 : BitVec 32 := 4#32
  let v287 : BitVec 32 := Scalar.muli v5 c4_i32_239
  let v288 : BitVec 32 := Scalar.addi v286 v287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_240 : BitVec 32 := 1#32
  let v289 : BitVec 32 := Scalar.muli v8 c1_i32_240
  let v290 : BitVec 32 := Scalar.addi v288 v289
  v290.toNat
def k0_dev7 (d0 : Dev nD) : Nat :=
  let c0_i32_276 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_275 : BitVec 32 := 8#32
  let v327 : BitVec 32 := Scalar.muli v19 c8_i32_275
  let v328 : BitVec 32 := Scalar.addi c0_i32_276 v327
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_277 : BitVec 32 := 4#32
  let v329 : BitVec 32 := Scalar.muli v5 c4_i32_277
  let v330 : BitVec 32 := Scalar.addi v328 v329
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_278 : BitVec 32 := 1#32
  let v331 : BitVec 32 := Scalar.muli v8 c1_i32_278
  let v332 : BitVec 32 := Scalar.addi v330 v331
  v332.toNat
def k0_dev8 (d0 : Dev nD) : Nat :=
  let c0_i32_314 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_313 : BitVec 32 := 8#32
  let v369 : BitVec 32 := Scalar.muli v19 c8_i32_313
  let v370 : BitVec 32 := Scalar.addi c0_i32_314 v369
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_315 : BitVec 32 := 4#32
  let v371 : BitVec 32 := Scalar.muli v5 c4_i32_315
  let v372 : BitVec 32 := Scalar.addi v370 v371
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_316 : BitVec 32 := 1#32
  let v373 : BitVec 32 := Scalar.muli v8 c1_i32_316
  let v374 : BitVec 32 := Scalar.addi v372 v373
  v374.toNat
def k0_dev9 (d0 : Dev nD) : Nat :=
  let c0_i32_351 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_350 : BitVec 32 := 8#32
  let v411 : BitVec 32 := Scalar.muli v19 c8_i32_350
  let v412 : BitVec 32 := Scalar.addi c0_i32_351 v411
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_352 : BitVec 32 := 4#32
  let v413 : BitVec 32 := Scalar.muli v5 c4_i32_352
  let v414 : BitVec 32 := Scalar.addi v412 v413
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_353 : BitVec 32 := 1#32
  let v415 : BitVec 32 := Scalar.muli v8 c1_i32_353
  let v416 : BitVec 32 := Scalar.addi v414 v415
  v416.toNat
def k0_dev10 (d0 : Dev nD) : Nat :=
  let c0_i32_388 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_387 : BitVec 32 := 8#32
  let v453 : BitVec 32 := Scalar.muli v19 c8_i32_387
  let v454 : BitVec 32 := Scalar.addi c0_i32_388 v453
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_389 : BitVec 32 := 4#32
  let v455 : BitVec 32 := Scalar.muli v5 c4_i32_389
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v457 : BitVec 32 := Scalar.muli v8 c1_i32_390
  let v458 : BitVec 32 := Scalar.addi v456 v457
  v458.toNat
def k0_dev11 (d0 : Dev nD) : Nat :=
  let c0_i32_425 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_424 : BitVec 32 := 8#32
  let v495 : BitVec 32 := Scalar.muli v19 c8_i32_424
  let v496 : BitVec 32 := Scalar.addi c0_i32_425 v495
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_426 : BitVec 32 := 4#32
  let v497 : BitVec 32 := Scalar.muli v5 c4_i32_426
  let v498 : BitVec 32 := Scalar.addi v496 v497
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_427 : BitVec 32 := 1#32
  let v499 : BitVec 32 := Scalar.muli v8 c1_i32_427
  let v500 : BitVec 32 := Scalar.addi v498 v499
  v500.toNat
def k0_dev12 (d0 : Dev nD) : Nat :=
  let c0_i32_463 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_462 : BitVec 32 := 8#32
  let v537 : BitVec 32 := Scalar.muli v19 c8_i32_462
  let v538 : BitVec 32 := Scalar.addi c0_i32_463 v537
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_464 : BitVec 32 := 4#32
  let v539 : BitVec 32 := Scalar.muli v5 c4_i32_464
  let v540 : BitVec 32 := Scalar.addi v538 v539
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_465 : BitVec 32 := 1#32
  let v541 : BitVec 32 := Scalar.muli v8 c1_i32_465
  let v542 : BitVec 32 := Scalar.addi v540 v541
  v542.toNat
def k0_dev13 (d0 : Dev nD) : Nat :=
  let c0_i32_494 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_493 : BitVec 32 := 8#32
  let v573 : BitVec 32 := Scalar.muli v19 c8_i32_493
  let v574 : BitVec 32 := Scalar.addi c0_i32_494 v573
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_495 : BitVec 32 := 4#32
  let v575 : BitVec 32 := Scalar.muli v5 c4_i32_495
  let v576 : BitVec 32 := Scalar.addi v574 v575
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_496 : BitVec 32 := 1#32
  let v577 : BitVec 32 := Scalar.muli v8 c1_i32_496
  let v578 : BitVec 32 := Scalar.addi v576 v577
  v578.toNat
def k0_dev14 (d0 : Dev nD) : Nat :=
  let c0_i32_525 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_524 : BitVec 32 := 8#32
  let v609 : BitVec 32 := Scalar.muli v19 c8_i32_524
  let v610 : BitVec 32 := Scalar.addi c0_i32_525 v609
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_526 : BitVec 32 := 4#32
  let v611 : BitVec 32 := Scalar.muli v5 c4_i32_526
  let v612 : BitVec 32 := Scalar.addi v610 v611
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_527 : BitVec 32 := 1#32
  let v613 : BitVec 32 := Scalar.muli v8 c1_i32_527
  let v614 : BitVec 32 := Scalar.addi v612 v613
  v614.toNat
def k0_dev15 (d0 : Dev nD) : Nat :=
  let c0_i32_539 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_538 : BitVec 32 := 8#32
  let v628 : BitVec 32 := Scalar.muli v19 c8_i32_538
  let v629 : BitVec 32 := Scalar.addi c0_i32_539 v628
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_540 : BitVec 32 := 4#32
  let v630 : BitVec 32 := Scalar.muli v5 c4_i32_540
  let v631 : BitVec 32 := Scalar.addi v629 v630
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_541 : BitVec 32 := 1#32
  let v632 : BitVec 32 := Scalar.muli v8 c1_i32_541
  let v633 : BitVec 32 := Scalar.addi v631 v632
  v633.toNat
def k0_dev16 (d0 : Dev nD) : Nat :=
  let c0_i32_557 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_556 : BitVec 32 := 8#32
  let v652 : BitVec 32 := Scalar.muli v2 c8_i32_556
  let v653 : BitVec 32 := Scalar.addi c0_i32_557 v652
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_558 : BitVec 32 := 4#32
  let v654 : BitVec 32 := Scalar.muli v5 c4_i32_558
  let v655 : BitVec 32 := Scalar.addi v653 v654
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_559 : BitVec 32 := 1#32
  let v656 : BitVec 32 := Scalar.muli v23 c1_i32_559
  let v657 : BitVec 32 := Scalar.addi v655 v656
  v657.toNat
def k0_dev17 (d0 : Dev nD) : Nat :=
  let c0_i32_567 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_566 : BitVec 32 := 8#32
  let v666 : BitVec 32 := Scalar.muli v2 c8_i32_566
  let v667 : BitVec 32 := Scalar.addi c0_i32_567 v666
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_568 : BitVec 32 := 4#32
  let v668 : BitVec 32 := Scalar.muli v20 c4_i32_568
  let v669 : BitVec 32 := Scalar.addi v667 v668
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_569 : BitVec 32 := 1#32
  let v670 : BitVec 32 := Scalar.muli v8 c1_i32_569
  let v671 : BitVec 32 := Scalar.addi v669 v670
  v671.toNat
def k0_dev18 (d0 : Dev nD) : Nat :=
  let c0_i32_606 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_605 : BitVec 32 := 8#32
  let v718 : BitVec 32 := Scalar.muli v2 c8_i32_605
  let v719 : BitVec 32 := Scalar.addi c0_i32_606 v718
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_607 : BitVec 32 := 4#32
  let v720 : BitVec 32 := Scalar.muli v5 c4_i32_607
  let v721 : BitVec 32 := Scalar.addi v719 v720
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_608 : BitVec 32 := 1#32
  let v722 : BitVec 32 := Scalar.muli v23 c1_i32_608
  let v723 : BitVec 32 := Scalar.addi v721 v722
  v723.toNat
def k0_off3 (d0 : Dev nD) (c0_i32_44 : BitVec 32) : Fin 2 → Nat :=
  let c2_i32_42 : BitVec 32 := 2#32
  let c1_i32_41 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v67 : BitVec 32 := Scalar.subi c1_i32_41 v18
  let v68 : BitVec 32 := Scalar.addi c2_i32_42 v67
  let c4_i32_43 : BitVec 32 := 4#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v69 : BitVec 32 := Scalar.muli c4_i32_43 v5
  let v70 : BitVec 32 := Scalar.addi v68 v69
  let v71 : BitVec 32 := Scalar.addi v70 c0_i32_44
  let c512_i32_633 : BitVec 32 := 512#32
  let v759 : BitVec 32 := Scalar.muli v71 c512_i32_633
  let c0_i32_640 : BitVec 32 := 0#32
  ![v759.toNat, 0]
def k0_dev19 (d0 : Dev nD) : Nat :=
  let c0_i32_647 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_646 : BitVec 32 := 8#32
  let v772 : BitVec 32 := Scalar.muli v2 c8_i32_646
  let v773 : BitVec 32 := Scalar.addi c0_i32_647 v772
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_648 : BitVec 32 := 4#32
  let v774 : BitVec 32 := Scalar.muli v20 c4_i32_648
  let v775 : BitVec 32 := Scalar.addi v773 v774
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_649 : BitVec 32 := 1#32
  let v776 : BitVec 32 := Scalar.muli v8 c1_i32_649
  let v777 : BitVec 32 := Scalar.addi v775 v776
  v777.toNat
def k0_off4 (d0 : Dev nD) (c0_i32_65 : BitVec 32) : Fin 2 → Nat :=
  let c2_i32_62 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v92 : BitVec 32 := Scalar.addi c2_i32_62 v18
  let c4_i32_64 : BitVec 32 := 4#32
  let c1_i32_63 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v93 : BitVec 32 := Scalar.subi c1_i32_63 v5
  let v94 : BitVec 32 := Scalar.muli c4_i32_64 v93
  let v95 : BitVec 32 := Scalar.addi v92 v94
  let v96 : BitVec 32 := Scalar.addi v95 c0_i32_65
  let c512_i32_674 : BitVec 32 := 512#32
  let v813 : BitVec 32 := Scalar.muli v96 c512_i32_674
  let c0_i32_681 : BitVec 32 := 0#32
  ![v813.toNat, 0]
def k0_dev20 (d0 : Dev nD) : Nat :=
  let c0_i32_717 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_716 : BitVec 32 := 8#32
  let v864 : BitVec 32 := Scalar.muli v2 c8_i32_716
  let v865 : BitVec 32 := Scalar.addi c0_i32_717 v864
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_718 : BitVec 32 := 4#32
  let v866 : BitVec 32 := Scalar.muli v5 c4_i32_718
  let v867 : BitVec 32 := Scalar.addi v865 v866
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_719 : BitVec 32 := 1#32
  let v868 : BitVec 32 := Scalar.muli v23 c1_i32_719
  let v869 : BitVec 32 := Scalar.addi v867 v868
  v869.toNat
def k0_off5 (d0 : Dev nD) (c0_i32_45 : BitVec 32) : Fin 2 → Nat :=
  let c1_i32_41 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v67 : BitVec 32 := Scalar.subi c1_i32_41 v18
  let v72 : BitVec 32 := Scalar.addi c0_i32_45 v67
  let c512_i32_744 : BitVec 32 := 512#32
  let v905 : BitVec 32 := Scalar.muli v72 c512_i32_744
  let c0_i32_751 : BitVec 32 := 0#32
  ![v905.toNat, 0]
def k0_off6 (d0 : Dev nD) (c0_i32_82 : BitVec 32) : Fin 2 → Nat :=
  let c2_i32_79 : BitVec 32 := 2#32
  let c1_i32_78 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v112 : BitVec 32 := Scalar.subi c1_i32_78 v18
  let v113 : BitVec 32 := Scalar.addi c2_i32_79 v112
  let c4_i32_81 : BitVec 32 := 4#32
  let c1_i32_80 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v114 : BitVec 32 := Scalar.subi c1_i32_80 v5
  let v115 : BitVec 32 := Scalar.muli c4_i32_81 v114
  let v116 : BitVec 32 := Scalar.addi v113 v115
  let v117 : BitVec 32 := Scalar.addi v116 c0_i32_82
  let c512_i32_775 : BitVec 32 := 512#32
  let v945 : BitVec 32 := Scalar.muli v117 c512_i32_775
  let c0_i32_782 : BitVec 32 := 0#32
  ![v945.toNat, 0]
def k0_dev21 (d0 : Dev nD) : Nat :=
  let c0_i32_818 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_817 : BitVec 32 := 8#32
  let v996 : BitVec 32 := Scalar.muli v2 c8_i32_817
  let v997 : BitVec 32 := Scalar.addi c0_i32_818 v996
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_819 : BitVec 32 := 4#32
  let v998 : BitVec 32 := Scalar.muli v5 c4_i32_819
  let v999 : BitVec 32 := Scalar.addi v997 v998
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_820 : BitVec 32 := 1#32
  let v1000 : BitVec 32 := Scalar.muli v23 c1_i32_820
  let v1001 : BitVec 32 := Scalar.addi v999 v1000
  v1001.toNat
def k0_dev22 (d0 : Dev nD) : Nat :=
  let c0_i32_828 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_827 : BitVec 32 := 8#32
  let v1010 : BitVec 32 := Scalar.muli v2 c8_i32_827
  let v1011 : BitVec 32 := Scalar.addi c0_i32_828 v1010
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_829 : BitVec 32 := 4#32
  let v1012 : BitVec 32 := Scalar.muli v20 c4_i32_829
  let v1013 : BitVec 32 := Scalar.addi v1011 v1012
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_830 : BitVec 32 := 1#32
  let v1014 : BitVec 32 := Scalar.muli v8 c1_i32_830
  let v1015 : BitVec 32 := Scalar.addi v1013 v1014
  v1015.toNat
def k0_dev23 (d0 : Dev nD) : Nat :=
  let c0_i32_898 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_897 : BitVec 32 := 8#32
  let v1102 : BitVec 32 := Scalar.muli v2 c8_i32_897
  let v1103 : BitVec 32 := Scalar.addi c0_i32_898 v1102
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_899 : BitVec 32 := 4#32
  let v1104 : BitVec 32 := Scalar.muli v5 c4_i32_899
  let v1105 : BitVec 32 := Scalar.addi v1103 v1104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_900 : BitVec 32 := 1#32
  let v1106 : BitVec 32 := Scalar.muli v23 c1_i32_900
  let v1107 : BitVec 32 := Scalar.addi v1105 v1106
  v1107.toNat
def k0_dev24 (d0 : Dev nD) : Nat :=
  let c0_i32_939 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_938 : BitVec 32 := 8#32
  let v1156 : BitVec 32 := Scalar.muli v2 c8_i32_938
  let v1157 : BitVec 32 := Scalar.addi c0_i32_939 v1156
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_940 : BitVec 32 := 4#32
  let v1158 : BitVec 32 := Scalar.muli v20 c4_i32_940
  let v1159 : BitVec 32 := Scalar.addi v1157 v1158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_941 : BitVec 32 := 1#32
  let v1160 : BitVec 32 := Scalar.muli v8 c1_i32_941
  let v1161 : BitVec 32 := Scalar.addi v1159 v1160
  v1161.toNat
def k0_dev25 (d0 : Dev nD) : Nat :=
  let c0_i32_1009 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1008 : BitVec 32 := 8#32
  let v1248 : BitVec 32 := Scalar.muli v2 c8_i32_1008
  let v1249 : BitVec 32 := Scalar.addi c0_i32_1009 v1248
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1010 : BitVec 32 := 4#32
  let v1250 : BitVec 32 := Scalar.muli v5 c4_i32_1010
  let v1251 : BitVec 32 := Scalar.addi v1249 v1250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1011 : BitVec 32 := 1#32
  let v1252 : BitVec 32 := Scalar.muli v23 c1_i32_1011
  let v1253 : BitVec 32 := Scalar.addi v1251 v1252
  v1253.toNat
def k0_dev26 (d0 : Dev nD) : Nat :=
  let c0_i32_1110 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1109 : BitVec 32 := 8#32
  let v1380 : BitVec 32 := Scalar.muli v2 c8_i32_1109
  let v1381 : BitVec 32 := Scalar.addi c0_i32_1110 v1380
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1111 : BitVec 32 := 4#32
  let v1382 : BitVec 32 := Scalar.muli v5 c4_i32_1111
  let v1383 : BitVec 32 := Scalar.addi v1381 v1382
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1112 : BitVec 32 := 1#32
  let v1384 : BitVec 32 := Scalar.muli v23 c1_i32_1112
  let v1385 : BitVec 32 := Scalar.addi v1383 v1384
  v1385.toNat
def k0_dev27 (d0 : Dev nD) : Nat :=
  let c0_i32_1120 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1119 : BitVec 32 := 8#32
  let v1394 : BitVec 32 := Scalar.muli v2 c8_i32_1119
  let v1395 : BitVec 32 := Scalar.addi c0_i32_1120 v1394
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1121 : BitVec 32 := 4#32
  let v1396 : BitVec 32 := Scalar.muli v20 c4_i32_1121
  let v1397 : BitVec 32 := Scalar.addi v1395 v1396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1122 : BitVec 32 := 1#32
  let v1398 : BitVec 32 := Scalar.muli v8 c1_i32_1122
  let v1399 : BitVec 32 := Scalar.addi v1397 v1398
  v1399.toNat
def k0_dev28 (d0 : Dev nD) : Nat :=
  let c0_i32_1190 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1189 : BitVec 32 := 8#32
  let v1486 : BitVec 32 := Scalar.muli v2 c8_i32_1189
  let v1487 : BitVec 32 := Scalar.addi c0_i32_1190 v1486
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1191 : BitVec 32 := 4#32
  let v1488 : BitVec 32 := Scalar.muli v5 c4_i32_1191
  let v1489 : BitVec 32 := Scalar.addi v1487 v1488
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1192 : BitVec 32 := 1#32
  let v1490 : BitVec 32 := Scalar.muli v23 c1_i32_1192
  let v1491 : BitVec 32 := Scalar.addi v1489 v1490
  v1491.toNat
def k0_dev29 (d0 : Dev nD) : Nat :=
  let c0_i32_1231 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1230 : BitVec 32 := 8#32
  let v1540 : BitVec 32 := Scalar.muli v2 c8_i32_1230
  let v1541 : BitVec 32 := Scalar.addi c0_i32_1231 v1540
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1232 : BitVec 32 := 4#32
  let v1542 : BitVec 32 := Scalar.muli v20 c4_i32_1232
  let v1543 : BitVec 32 := Scalar.addi v1541 v1542
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1233 : BitVec 32 := 1#32
  let v1544 : BitVec 32 := Scalar.muli v8 c1_i32_1233
  let v1545 : BitVec 32 := Scalar.addi v1543 v1544
  v1545.toNat
def k0_dev30 (d0 : Dev nD) : Nat :=
  let c0_i32_1301 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1300 : BitVec 32 := 8#32
  let v1632 : BitVec 32 := Scalar.muli v2 c8_i32_1300
  let v1633 : BitVec 32 := Scalar.addi c0_i32_1301 v1632
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1302 : BitVec 32 := 4#32
  let v1634 : BitVec 32 := Scalar.muli v5 c4_i32_1302
  let v1635 : BitVec 32 := Scalar.addi v1633 v1634
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1303 : BitVec 32 := 1#32
  let v1636 : BitVec 32 := Scalar.muli v23 c1_i32_1303
  let v1637 : BitVec 32 := Scalar.addi v1635 v1636
  v1637.toNat
def k0_dev31 (d0 : Dev nD) : Nat :=
  let c0_i32_1402 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1401 : BitVec 32 := 8#32
  let v1764 : BitVec 32 := Scalar.muli v2 c8_i32_1401
  let v1765 : BitVec 32 := Scalar.addi c0_i32_1402 v1764
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1403 : BitVec 32 := 4#32
  let v1766 : BitVec 32 := Scalar.muli v5 c4_i32_1403
  let v1767 : BitVec 32 := Scalar.addi v1765 v1766
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1404 : BitVec 32 := 1#32
  let v1768 : BitVec 32 := Scalar.muli v23 c1_i32_1404
  let v1769 : BitVec 32 := Scalar.addi v1767 v1768
  v1769.toNat
def k0_dev32 (d0 : Dev nD) : Nat :=
  let c0_i32_1412 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1411 : BitVec 32 := 8#32
  let v1778 : BitVec 32 := Scalar.muli v2 c8_i32_1411
  let v1779 : BitVec 32 := Scalar.addi c0_i32_1412 v1778
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1413 : BitVec 32 := 4#32
  let v1780 : BitVec 32 := Scalar.muli v20 c4_i32_1413
  let v1781 : BitVec 32 := Scalar.addi v1779 v1780
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1414 : BitVec 32 := 1#32
  let v1782 : BitVec 32 := Scalar.muli v8 c1_i32_1414
  let v1783 : BitVec 32 := Scalar.addi v1781 v1782
  v1783.toNat
def k0_dev33 (d0 : Dev nD) : Nat :=
  let c0_i32_1482 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1481 : BitVec 32 := 8#32
  let v1870 : BitVec 32 := Scalar.muli v2 c8_i32_1481
  let v1871 : BitVec 32 := Scalar.addi c0_i32_1482 v1870
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1483 : BitVec 32 := 4#32
  let v1872 : BitVec 32 := Scalar.muli v5 c4_i32_1483
  let v1873 : BitVec 32 := Scalar.addi v1871 v1872
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1484 : BitVec 32 := 1#32
  let v1874 : BitVec 32 := Scalar.muli v23 c1_i32_1484
  let v1875 : BitVec 32 := Scalar.addi v1873 v1874
  v1875.toNat
def k0_dev34 (d0 : Dev nD) : Nat :=
  let c0_i32_1523 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1522 : BitVec 32 := 8#32
  let v1924 : BitVec 32 := Scalar.muli v2 c8_i32_1522
  let v1925 : BitVec 32 := Scalar.addi c0_i32_1523 v1924
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1524 : BitVec 32 := 4#32
  let v1926 : BitVec 32 := Scalar.muli v20 c4_i32_1524
  let v1927 : BitVec 32 := Scalar.addi v1925 v1926
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1525 : BitVec 32 := 1#32
  let v1928 : BitVec 32 := Scalar.muli v8 c1_i32_1525
  let v1929 : BitVec 32 := Scalar.addi v1927 v1928
  v1929.toNat
def k0_dev35 (d0 : Dev nD) : Nat :=
  let c0_i32_1593 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1592 : BitVec 32 := 8#32
  let v2016 : BitVec 32 := Scalar.muli v2 c8_i32_1592
  let v2017 : BitVec 32 := Scalar.addi c0_i32_1593 v2016
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1594 : BitVec 32 := 4#32
  let v2018 : BitVec 32 := Scalar.muli v5 c4_i32_1594
  let v2019 : BitVec 32 := Scalar.addi v2017 v2018
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1595 : BitVec 32 := 1#32
  let v2020 : BitVec 32 := Scalar.muli v23 c1_i32_1595
  let v2021 : BitVec 32 := Scalar.addi v2019 v2020
  v2021.toNat
-- ==== ReferenceIdeal.lean ====
abbrev S32768x1024 : Shape := ⟨2, ![32768, 1024]⟩
abbrev S2x16384x1024 : Shape := ⟨3, ![2, 16384, 1024]⟩
abbrev S_ : Shape := ⟨0, ![]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S2x16384x1024, .bf16⟩
  | .hbm, ⟨3, _⟩ => ⟨S2x16384x1024, .f32⟩
  | .hbm, ⟨4, _⟩ => ⟨S_, .f32⟩
  | .hbm, ⟨5, _⟩ => ⟨S16384x1024, .f32⟩
  | .hbm, ⟨6, _⟩ => ⟨S16384x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Script.lean ====
/- The kernel's body as a short program over indices: the 32 row chunks a device handles, the semaphores of its
   transfers, the steps that load, convert, forward and add one chunk, and their sequence. `body_eq_script` says the
   printed body is that program. -/
module

public import proofs.«01_k».proof.Proof.Gen.KernelIdeal.Skeleton
public import proofs.«01_k».proof.Proof.Gen.KernelIdeal.Points
public import proofs.«01_k».proof.Proof.Gen.KernelIdeal.Launch
public import Mathlib.Tactic.DeriveFintype

@[expose] public section

noncomputable section

namespace Cert.KernelIdeal.RS

open Idealize.ShloMosaic Idealize.ShloMosaic.TcCoe Idealize.SL.Sem
open Cert.KernelIdeal.Gen

variable {F : FTy → Type} [FloatOps F]

/-! ## Chunks -/

/-- The 32 chunks of 512 rows, named by the family of row offsets the kernel computes them with and the place in
    it: `a`, `b` the chunks this device's data is sent along the x axis for, `cc`, `e` those forwarded by the z
    partner, `u`, `r` those forwarded by the y neighbour. -/
inductive Ch where
  | a (j : Fin 4) | b (j : Fin 8) | cc (j : Fin 4) | u (j : Fin 4) | e (j : Fin 8) | r (j : Fin 4)
  deriving DecidableEq, Fintype

/-- Rows of a whole array: the offsets of one chunk, inside the array and made of whole words. -/
structure Blk where
  off : Fin 2 → Nat
  inb : ∀ a, off a + S512x1024.size a ≤ S16384x1024.size a
  words : (Rect.unit (s := S16384x1024) off S512x1024.size inb).WholeWords (EltTy.packing .bf16)

/-- The chunk's rows as device `d` computes them. -/
def Ch.blk (d : Dev nD) : Ch → Blk
  | .a j => ⟨k0_off1 d (BitVec.ofNat 32 (8 * j.val)), k0_off1_inb d j, k0_off1_wordsbf16 d j⟩
  | .b j => ⟨k0_off2 d (BitVec.ofNat 32 (4 * j.val)), k0_off2_inb d j, k0_off2_wordsbf16 d j⟩
  | .cc j => ⟨k0_off3 d (BitVec.ofNat 32 (8 * j.val)), k0_off3_inb d j, k0_off3_wordsbf16 d j⟩
  | .u j => ⟨k0_off4 d (BitVec.ofNat 32 (8 * j.val)), k0_off4_inb d j, k0_off4_wordsbf16 d j⟩
  | .e j => ⟨k0_off5 d (BitVec.ofNat 32 (4 * j.val)), k0_off5_inb d j, k0_off5_wordsbf16 d j⟩
  | .r j => ⟨k0_off6 d (BitVec.ofNat 32 (8 * j.val)), k0_off6_inb d j, k0_off6_wordsbf16 d j⟩

/-- The chunk of the `i`th transfer along x. -/
def dl (i : Nat) : Ch := if i % 3 = 0 then .a (Fin.ofNat 4 (i / 3)) else .b (Fin.ofNat 8 (2 * (i / 3) + (i % 3 - 1)))
/-- The chunk of the `i`th transfer received from the z partner. -/
def zl (i : Nat) : Ch := if i % 3 = 0 then .cc (Fin.ofNat 4 (i / 3)) else .e (Fin.ofNat 8 (2 * (i / 3) + (i % 3 - 1)))
/-- The chunk of the `j`th transfer received from the y neighbour. -/
def yl (j : Nat) : Ch := if j < 4 then .u (Fin.ofNat 4 j) else .r (Fin.ofNat 4 (j - 4))

/-- The x neighbour, the y neighbour and the z partner. -/
def xp (d : Dev nD) : Dev nD := ⟨k0_dev1 d, k0_dev1_lt d⟩
def yp (d : Dev nD) : Dev nD := ⟨k0_dev2 d, k0_dev2_lt d⟩
def zp (d : Dev nD) : Dev nD := ⟨k0_dev3 d, k0_dev3_lt d⟩

/-! ## Semaphores -/

theorem inb12 (i : Fin 12) : ∀ a, (![i.val] : Fin 1 → Nat) a + S1.size a ≤ S12.size a := by revert i; decide
theorem inb8 (i : Fin 8) : ∀ a, (![i.val] : Fin 1 → Nat) a + S1.size a ≤ S8.size a := by revert i; decide
theorem inb3 (i : Fin 3) : ∀ a, (![i.val] : Fin 1 → Nat) a + S1.size a ≤ S3.size a := by revert i; decide
theorem inb2 (i : Fin 2) : ∀ a, (![i.val] : Fin 1 → Nat) a + S1.size a ≤ S2.size a := by revert i; decide

abbrev sem12 (A : DmaSems sig S12) (i : Fin 12) : DmaSem sig :=
  ((A.slice (Rect.unit (s := S12) ![i.val] S1.size (inb12 i))).squeeze S_ squeezes_S1_S_).sem
abbrev sem8 (A : DmaSems sig S8) (i : Fin 8) : DmaSem sig :=
  ((A.slice (Rect.unit (s := S8) ![i.val] S1.size (inb8 i))).squeeze S_ squeezes_S1_S_).sem
abbrev sem3 (A : DmaSems sig S3) (i : Fin 3) : DmaSem sig :=
  ((A.slice (Rect.unit (s := S3) ![i.val] S1.size (inb3 i))).squeeze S_ squeezes_S1_S_).sem
abbrev sem2 (A : DmaSems sig S2) (i : Fin 2) : DmaSem sig :=
  ((A.slice (Rect.unit (s := S2) ![i.val] S1.size (inb2 i))).squeeze S_ squeezes_S1_S_).sem

/-- The semaphores of the transfers between devices: sent and received along x, z and y. -/
inductive Cell where
  | xs (i : Fin 12) | xr (i : Fin 12) | zs (i : Fin 12) | zr (i : Fin 12) | ys (i : Fin 8) | yr (i : Fin 8)
  deriving DecidableEq, Fintype

def Cell.sem : Cell → DmaSem sig
  | .xs i => sem12 cc0_scratch0 i
  | .xr i => sem12 cc0_scratch1 i
  | .zs i => sem12 cc0_scratch2 i
  | .zr i => sem12 cc0_scratch3 i
  | .ys i => sem8 cc0_scratch4 i
  | .yr i => sem8 cc0_scratch5 i

/-- The semaphores of the device's own copies: loads of the argument, stores of the converted chunk, and the three
    of an addition. -/
def cfl (i : Fin 3) : DmaSem sig := sem3 cc0_scratch11 i
def cst (i : Fin 2) : DmaSem sig := sem2 cc0_scratch12 i
def cp (i : Fin 3) : DmaSem sig := sem3 cc0_scratch13 i

/-! ## Buffers -/

abbrev X : Memref sig .tc .hbm S16384x1024 .f32 := Memref.whole main_arg0
abbrev OUT : Memref sig .tc .hbm S16384x1024 .bf16 := Memref.whole main_v1_0
abbrev RECV : Memref sig .tc .hbm S16384x1024 .bf16 := Memref.whole main_v1_1
abbrev XBB : Memref sig .tc .hbm S16384x1024 .bf16 := Memref.whole main_v1_2
abbrev FV : Memref sig .tc .vmem S3x512x1024 .f32 := Memref.whole cc0_scratch6
abbrev BV : Memref sig .tc .vmem S2x512x1024 .bf16 := Memref.whole cc0_scratch7
abbrev AV : Memref sig .tc .vmem S512x1024 .f32 := Memref.whole cc0_scratch8
abbrev RV : Memref sig .tc .vmem S512x1024 .bf16 := Memref.whole cc0_scratch9
abbrev OV : Memref sig .tc .vmem S512x1024 .bf16 := Memref.whole cc0_scratch10

/-- A chunk of a whole array. -/
abbrev Blk.of {e : EltTy} (b : Blk) (m : Memref sig .tc .hbm S16384x1024 e) : Memref sig .tc .hbm S512x1024 e :=
  m.slice (Rect.unit (s := S16384x1024) b.off S512x1024.size b.inb) (fun _ => rfl)

theorem inbFV (i : Fin 3) : ∀ a, (![i.val, 0, 0] : Fin 3 → Nat) a + S1x512x1024.size a ≤ S3x512x1024.size a := by revert i; decide
theorem inbBV (i : Fin 2) : ∀ a, (![i.val, 0, 0] : Fin 3 → Nat) a + S1x512x1024.size a ≤ S2x512x1024.size a := by revert i; decide
abbrev rFV (i : Fin 3) : Rect S3x512x1024 := Rect.unit (s := S3x512x1024) ![i.val, 0, 0] S1x512x1024.size (inbFV i)
abbrev rBV (i : Fin 2) : Rect S2x512x1024 := Rect.unit (s := S2x512x1024) ![i.val, 0, 0] S1x512x1024.size (inbBV i)
theorem wordsBV (i : Fin 2) : (rBV i).WholeWords (EltTy.packing .bf16) := by
  fin_cases i
  · exact wordsbf16_S2x512x1024_S1x512x1024_0_0_0
  · exact wordsbf16_S2x512x1024_S1x512x1024_1_0_0
theorem packedBV (i : Fin 2) : (rBV i).PackedRows (EltTy.packing .bf16) := by
  fin_cases i
  · exact packedbf16_S2x512x1024_S1x512x1024_0_0_0
  · exact packedbf16_S2x512x1024_S1x512x1024_1_0_0
/-- One of the three load buffers, one of the two store buffers. -/
abbrev FVs (i : Fin 3) : Memref sig .tc .vmem S512x1024 .f32 := (FV.slice (rFV i) (fun _ => rfl)).squeeze S512x1024 squeezes_S1x512x1024_S512x1024
abbrev BVs (i : Fin 2) : Memref sig .tc .vmem S512x1024 .bf16 := (BV.slice (rBV i) (fun _ => rfl)).squeeze S512x1024 squeezes_S1x512x1024_S512x1024
/-- A two-dimensional buffer of one chunk, loaded or stored whole. -/
abbrev rV : Rect S512x1024 := Rect.unit (s := S512x1024) ![0, 0] S512x1024.size inb_S512x1024_S512x1024_0_0

theorem wX : X.IsWhole := Memref.isWhole_whole _
theorem wOUT : OUT.IsWhole := Memref.isWhole_whole _
theorem wRECV : RECV.IsWhole := Memref.isWhole_whole _
theorem wXBB : XBB.IsWhole := Memref.isWhole_whole _
theorem wBV : BV.IsWhole := Memref.isWhole_whole _
theorem wAV : AV.IsWhole := Memref.isWhole_whole _
theorem wRV : RV.IsWhole := Memref.isWhole_whole _
theorem wOV : OV.IsWhole := Memref.isWhole_whole _

/-! ## The steps -/

/-- A program of the kernel's core. -/
abbrev PG (F : FTy → Type) (α : Type) : Type 1 := Prog (TpuEff nD τ sig (Elt F) Λ₀ .tc) α

/-- The slot of the `k`th load among three, of the `k`th store among two. -/
abbrev s3 (k : Nat) : Fin 3 := ⟨k % 3, Nat.mod_lt _ (by decide)⟩
abbrev s2 (k : Nat) : Fin 2 := ⟨k % 2, Nat.mod_lt _ (by decide)⟩

/-- Start the `k`th load of the argument. -/
def ldP (d : Dev nD) (k : Nat) : PG F PUnit :=
  Prog.lift (.enqueueDma (((dl k).blk d).of X) (.here (FVs (s3 k))) (.dma (cfl (s3 k))) (View.wordExact_bits rfl) ((View.wordExact_bits rfl).reshape _ _) ⟨Or.inl rfl, trivial⟩)

/-- Wait for the `k`th load, convert the chunk and start storing it. -/
def cvP (d : Dev nD) (k : Nat) : PG F PUnit := do
  Prog.lift (.waitDma2 (cfl (s3 k)) (((dl k).blk d).of X) (FVs (s3 k)) (View.wordExact_bits rfl) ((View.wordExact_bits rfl).reshape _ _))
  let v : Vec F S1x512x1024 .f32 ← Prog.lift (.load FV (rFV (s3 k)).toLoadRect (View.loadsAt_vmem h_S1x512x1024))
  let _ : Vec F S1x512x1024 .bf16 ← Prog.lift (.load BV (rBV (s2 k)).toLoadRect (View.loadsAt_vmem h_S1x512x1024))
  Prog.lift (.store BV (rBV (s2 k)) (k0_pay1 v) Finset.univ (View.stores_vmem h_S1x512x1024 (wBV.storeExact_slice rfl _ (packedBV (s2 k))) (fun _ => rfl)) (.inl rfl))
  Prog.lift (.enqueueDma (BVs (s2 k)) (.here (((dl k).blk d).of XBB)) (.dma (cst (s2 k))) ((wBV.wordExact_slice rfl _ (wordsBV (s2 k))).reshape _ _) (wXBB.wordExact_slice rfl _ ((dl k).blk d).words) ⟨Or.inl rfl, trivial⟩)

/-- A transfer of one chunk of `m` into the same chunk of another device's receive buffer. -/
def sendP (b : Blk) (m : Memref sig .tc .hbm S16384x1024 .bf16) (hm : m.IsWhole) (dst : Dev nD) (sS sR : DmaSem sig) : PG F PUnit :=
  Prog.lift (.enqueueDma (b.of m) (.remote (Dev.tc dst) (b.of RECV) (.dma sS)) (.dma sR) (hm.wordExact_slice rfl _ b.words) (wRECV.wordExact_slice rfl _ b.words) ⟨⟨rfl, Or.inl rfl⟩, trivial⟩)

/-- Wait for the `k`th store and send the stored chunk to the x neighbour. -/
def xsP (d : Dev nD) (k : Nat) : PG F PUnit := do
  Prog.lift (.waitDma2 (cst (s2 k)) (BVs (s2 k)) (((dl k).blk d).of XBB) ((wBV.wordExact_slice rfl _ (wordsBV (s2 k))).reshape _ _) (wXBB.wordExact_slice rfl _ ((dl k).blk d).words))
  sendP ((dl k).blk d) XBB wXBB (xp d) (Cell.xs (Fin.ofNat 12 k)).sem (Cell.xr (Fin.ofNat 12 k)).sem

/-- One step of the sending loop. -/
def loopP (d : Dev nD) : Nat → Nat → PG F PUnit
  | 0, _ => pure ⟨⟩
  | n + 1, k => do
    xsP d k
    if k < 8 then do
      ldP d (k + 4)
      cvP d (k + 2)
      loopP d n (k + 1)
    else do
      cvP d (k + 2)
      loopP d n (k + 1)

/-- Add one chunk: copy the argument's and the received rows in, add, copy the sum out. -/
def addP (b : Blk) : PG F PUnit := do
  Prog.lift (.enqueueDma (b.of X) (.here AV) (.dma (cp 0)) (View.wordExact_bits rfl) wAV.wordExact ⟨Or.inl rfl, trivial⟩)
  Prog.lift (.enqueueDma (b.of RECV) (.here RV) (.dma (cp 1)) (wRECV.wordExact_slice rfl _ b.words) wRV.wordExact ⟨Or.inl rfl, trivial⟩)
  Prog.lift (.waitDma2 (cp 0) (b.of X) AV (View.wordExact_bits rfl) wAV.wordExact)
  Prog.lift (.waitDma2 (cp 1) (b.of RECV) RV (wRECV.wordExact_slice rfl _ b.words) wRV.wordExact)
  let v : Vec F S512x1024 .f32 ← Prog.lift (.load AV rV.toLoadRect (View.loadsAt_vmem h_S512x1024))
  let w : Vec F S512x1024 .bf16 ← Prog.lift (.load RV rV.toLoadRect (View.loadsAt_vmem h_S512x1024))
  let _ : Vec F S512x1024 .bf16 ← Prog.lift (.load OV rV.toLoadRect (View.loadsAt_vmem h_S512x1024))
  Prog.lift (.store OV rV (k0_pay14 v w) Finset.univ (View.stores_vmem h_S512x1024 (wOV.storeExact_slice rfl _ packedbf16_S512x1024_S512x1024_0_0) (fun _ => rfl)) (.inl rfl))
  Prog.lift (.enqueueDma OV (.here (b.of OUT)) (.dma (cp 2)) wOV.wordExact (wOUT.wordExact_slice rfl _ b.words) ⟨Or.inl rfl, trivial⟩)
  Prog.lift (.waitDma2 (cp 2) OV (b.of OUT) wOV.wordExact (wOUT.wordExact_slice rfl _ b.words))

/-- A wait for the transfer of one chunk, on semaphore `s`; the source and the destination it names. -/
def waitP (b : Blk) (s : DmaSem sig) (m m' : Memref sig .tc .hbm S16384x1024 .bf16) (hm : m.IsWhole) (hm' : m'.IsWhole) : PG F PUnit :=
  Prog.lift (.waitDma2 s (b.of m) (b.of m') (hm.wordExact_slice rfl _ b.words) (hm'.wordExact_slice rfl _ b.words))

/-- A forward of a received chunk: to which neighbour, on which of its semaphore pairs. -/
inductive Fwd where | z (i : Fin 12) | y (j : Fin 8)
  deriving DecidableEq

def Fwd.dev (d : Dev nD) : Fwd → Dev nD
  | .z _ => zp d
  | .y _ => yp d
def Fwd.snd : Fwd → Cell
  | .z i => .zs i
  | .y j => .ys j
def Fwd.rcv : Fwd → Cell
  | .z i => .zr i
  | .y j => .yr j

/-- The kinds of received chunk, in the order handled: the `i`th from the x neighbour, the `i`th from the z partner,
    the `j`th from the y neighbour. -/
inductive Task where | x (i : Fin 12) | z (i : Fin 12) | y (j : Fin 8)
  deriving DecidableEq, Fintype

def Task.ch : Task → Ch
  | .x i => dl i.val
  | .z i => zl i.val
  | .y j => yl j.val
def Task.cell : Task → Cell
  | .x i => .xr i
  | .z i => .zr i
  | .y j => .yr j
/-- What is forwarded of the chunk: everything from x to the z partner, every third chunk to the y neighbour; every
    third chunk of the z partner to the y neighbour. -/
def Task.fwds : Task → List Fwd
  | .x i => if i.val % 3 = 0 then [.z i, .y (Fin.ofNat 8 (i.val / 3))] else [.z i]
  | .z i => if i.val % 3 = 0 then [.y (Fin.ofNat 8 (4 + i.val / 3))] else []
  | .y _ => []
/-- The buffer the wait for the chunk names as its source. -/
def Task.src : Task → Memref sig .tc .hbm S16384x1024 .bf16
  | .x _ => XBB
  | _ => RECV
theorem Task.wsrc : (t : Task) → t.src.IsWhole
  | .x _ => wXBB
  | .z _ => wRECV
  | .y _ => wRECV

/-- Forward a chunk to each neighbour in a list. -/
def fwdP (d : Dev nD) (b : Blk) : List Fwd → PG F PUnit
  | [] => pure ⟨⟩
  | f :: l => do
    sendP b RECV wRECV (f.dev d) f.snd.sem f.rcv.sem
    fwdP d b l

/-- Handle one received chunk: wait for it, forward it, add it. -/
def taskP (d : Dev nD) (t : Task) : PG F PUnit := do
  waitP (t.ch.blk d) t.cell.sem t.src RECV t.wsrc wRECV
  fwdP d (t.ch.blk d) t.fwds
  addP (t.ch.blk d)

def tasksP (d : Dev nD) : List Task → PG F PUnit
  | [] => pure ⟨⟩
  | t :: l => do
    taskP d t
    tasksP d l

/-- The order the received chunks are handled in. -/
def tasks : List Task :=
  [.x 0,
   .x 1, .z 0, .y 0,
   .x 2, .z 1, .y 4,
   .x 3, .z 2,
   .x 4, .z 3, .y 1,
   .x 5, .z 4, .y 5,
   .x 6, .z 5,
   .x 7, .z 6, .y 2,
   .x 8, .z 7, .y 6,
   .x 9, .z 8,
   .x 10, .z 9, .y 3,
   .x 11, .z 10, .y 7,
   .z 11]

/-- Wait until the forwards of one chunk have left. -/
def drainFP (b : Blk) : List Fwd → PG F PUnit
  | [] => pure ⟨⟩
  | f :: l => do
    waitP b f.snd.sem RECV RECV wRECV wRECV
    drainFP b l

def drainTP (d : Dev nD) : List Task → PG F PUnit
  | [] => pure ⟨⟩
  | t :: l => do
    drainFP (t.ch.blk d) t.fwds
    drainTP d l

/-- Wait until the transfers along x have left. -/
def drainXP (d : Dev nD) : Nat → Nat → PG F PUnit
  | 0, _ => pure ⟨⟩
  | n + 1, k => do
    waitP ((dl k).blk d) (Cell.xs (Fin.ofNat 12 k)).sem RECV XBB wRECV wXBB
    drainXP d n (k + 1)

/-- The kernel's body on device `d`. -/
def script (d : Dev nD) : PG F PUnit := do
  semSignalWord (xp d) (sig.barrier 0 rfl) 1#32
  semSignalWord (yp d) (sig.barrier 0 rfl) 1#32
  semSignalWord (zp d) (sig.barrier 0 rfl) 1#32
  ldP d 0
  ldP d 1
  ldP d 2
  cvP d 0
  ldP d 3
  cvP d 1
  semWaitWord (sig.barrier 0 rfl) 3#32
  loopP d 10 0
  xsP d 10
  xsP d 11
  tasksP d tasks
  drainXP d 12 0
  drainTP d tasks

set_option maxRecDepth 65536 in
/-- The printed body is the script, run on the device it reads. -/
theorem body_eq_script (t : Fin cfg0.N) : bodyAt0 (F := F) t = (Prog.lift .deviceId >>= fun d => script d) := by
  chain_rfl

end Cert.KernelIdeal.RS

end
-- ==== Proof.Tasks.lean ====
/- The transfers between devices, as combinatorics: which neighbour sends each received chunk, which device its rows
   come from, on which semaphores, what is owed in which order; that the 32 chunks are the array. -/
module

public import proofs.«01_k».proof.Proof.Script

@[expose] public section

noncomputable section

namespace Cert.KernelIdeal.RS

open Idealize.ShloMosaic Idealize.ShloMosaic.TcCoe Idealize.SL.Sem
open Cert.KernelIdeal.Gen

/-! ## Neighbours -/

theorem xp_xp (d : Dev nD) : xp (xp d) = d := by revert d; decide +kernel
theorem yp_yp (d : Dev nD) : yp (yp d) = d := by revert d; decide +kernel
theorem zp_zp (d : Dev nD) : zp (zp d) = d := by revert d; decide +kernel

/-- The three neighbours in the order they are signalled. -/
def nb (k : Fin 3) (d : Dev nD) : Dev nD := match k with
  | 0 => xp d
  | 1 => yp d
  | 2 => zp d
theorem nb_nb (k : Fin 3) (d : Dev nD) : nb k (nb k d) = d := by revert k d; decide +kernel

namespace Task

/-- The axis a chunk arrives along. -/
def kind : Task → Fin 3
  | .x _ => 0
  | .y _ => 1
  | .z _ => 2
/-- The other end of the transfer. -/
def dst (t : Task) (d : Dev nD) : Dev nD := nb t.kind d
theorem dst_dst (t : Task) (d : Dev nD) : t.dst (t.dst d) = d := nb_nb _ _
/-- The semaphore counting the transfer out at its sender. -/
def snd : Task → Cell
  | .x i => .xs i
  | .z i => .zs i
  | .y j => .ys j
/-- The chunk as its sender names it. -/
def sch : Task → Ch
  | .x i => dl i.val
  | .z i => dl i.val
  | .y j => if j.val < 4 then dl (3 * j.val) else zl (3 * (j.val - 4))
/-- The device whose rows arrive at `d`. -/
def org (t : Task) (d : Dev nD) : Dev nD := match t with
  | .x _ => xp d
  | .z _ => xp (zp d)
  | .y j => if j.val < 4 then xp (yp d) else xp (zp (yp d))
/-- The number of the chunk at `d`: it is rows `512 * num` and on. -/
def num (d : Dev nD) (t : Task) : Nat := (t.ch.blk d).off 0 / 512

end Task

/-- A forward is the transfer of its receiver's task. -/
def Fwd.task : Fwd → Task
  | .z i => .z i
  | .y j => .y j
theorem Fwd.dev_eq (d : Dev nD) (f : Fwd) : f.dev d = f.task.dst d := by cases f <;> rfl
theorem Fwd.snd_eq (f : Fwd) : f.snd = f.task.snd := by cases f <;> rfl
theorem Fwd.rcv_eq (f : Fwd) : f.rcv = f.task.cell := by cases f <;> rfl

/-- What is forwarded is the chunk received, and it arrives naming the same origin. -/
theorem fwds_ch (t : Task) : ∀ f ∈ t.fwds, f.task.sch = t.ch := by revert t; decide +kernel
theorem fwds_org (t : Task) (d : Dev nD) : ∀ f ∈ t.fwds, f.task.org (f.task.dst d) = t.org d := by revert t d; decide +kernel

/-! ## Chunks -/

theorem Blk.ext' {b b' : Blk} (h : b.off = b'.off) : b = b' := by
  cases b; cases b'; cases h; rfl

/-- The two names of one transfer's rows agree. -/
theorem sch_off (t : Task) (d : Dev nD) : (t.sch.blk d).off = (t.ch.blk (t.dst d)).off := by
  funext a; revert a; revert t d; decide +kernel
theorem sch_blk (t : Task) (d : Dev nD) : t.sch.blk d = t.ch.blk (t.dst d) := Blk.ext' (sch_off t d)

theorem off_eq (d : Dev nD) (t : Task) : (t.ch.blk d).off = ![512 * t.num d, 0] := by
  funext a; revert a; revert t d; decide +kernel
theorem num_lt (d : Dev nD) (t : Task) : t.num d < 32 := by revert t d; decide +kernel
theorem num_inj (d : Dev nD) : ∀ t t' : Task, t.num d = t'.num d → t = t' := by revert d; decide +kernel
theorem num_surj (d : Dev nD) : ∀ n : Fin 32, ∃ t : Task, t.num d = n.val := by revert d; decide +kernel

/-! ## Semaphores -/

/-- The two semaphores of a transfer: at its sender (`false`), at its receiver (`true`). -/
def cs (p : Task × Bool) : DmaSem sig := if p.2 then p.1.cell.sem else p.1.snd.sem
theorem cs_inj : Function.Injective cs := by
  have h : ∀ p q : Task × Bool, cs p = cs q → p = q := by decide +kernel
  exact fun p q => h p q
/-- The device's own copies have semaphores of their own. -/
abbrev ls : Fin 3 ⊕ Fin 2 ⊕ Fin 3 → DmaSem sig
  | .inl i => cfl i
  | .inr (.inl i) => cst i
  | .inr (.inr i) => cp i

/-! ## What is owed, in order -/

/-- The transfers along x, from the `k`th on. -/
def xt (k : Nat) : Task := .x (Fin.ofNat 12 k)
def xs : Nat → Nat → List Task
  | 0, _ => []
  | n + 1, k => xt k :: xs n (k + 1)
/-- The forwards of a list of tasks. -/
def pays : List Task → List Task
  | [] => []
  | t :: l => t.fwds.map Fwd.task ++ pays l
/-- Every transfer a device makes, in order. -/
def payAll : List Task := xs 12 0 ++ pays tasks

theorem payAll_nodup : payAll.Nodup := by decide +kernel
theorem payAll_univ : Finset.univ = payAll.toFinset := by decide +kernel
theorem tasks_nodup : tasks.Nodup := by decide +kernel
theorem tasks_univ : Finset.univ = tasks.toFinset := by decide +kernel
theorem payAll_count (t : Task) : payAll.count t = 1 := by revert t; decide +kernel

theorem xt_ch (k : Nat) (h : k < 12) : (xt k).ch = dl k := by
  have h' : ∀ k : Fin 12, (xt k.val).ch = dl k.val := by decide +kernel
  exact h' ⟨k, h⟩
theorem xt_sch (k : Nat) (h : k < 12) : (xt k).sch = dl k := by
  have h' : ∀ k : Fin 12, (xt k.val).sch = dl k.val := by decide +kernel
  exact h' ⟨k, h⟩

/-! ## Levels: every wait is for something below all that is still owed -/

def Task.lvl : Task → Nat
  | .x _ => 2
  | .z i => 20 + 10 * i.val
  | .y j => if j.val < 4 then 20 + 30 * j.val + 1 else 20 + 30 * (j.val - 4) + 12
theorem lvl_pos (t : Task) : 2 ≤ t.lvl := by revert t; decide +kernel

/-- At each task of the list, what is still owed is above it. -/
def Below : List Task → Prop
  | [] => True
  | t :: l => (∀ p ∈ pays (t :: l), t.lvl < p.lvl) ∧ Below l
theorem below_tasks : Below tasks := by
  unfold tasks
  repeat' (first | exact trivial | refine ⟨by decide +kernel, ?_⟩)

end Cert.KernelIdeal.RS

end
-- ==== Proof.Sched.lean ====
/- The cross-device protocol: what each semaphore's round carries, and the ghost state it is proved with. -/
module

public import proofs.«01_k».proof.Proof.Tasks
public import Idealize.ShloMosaic.Lib.Rounds
public import Idealize.ShloMosaic.Lib.Transfers
public import Idealize.ShloMosaic.Lib.Pipeline.Kit
public import Idealize.ShloMosaic.Lib.Pipeline.CollectiveSegs

@[expose] public section

noncomputable section

namespace Cert.KernelIdeal.RS

open Idealize.ShloMosaic Idealize.ShloMosaic.TcCoe Idealize.ShloMosaic.Rounds
open Idealize.SL Idealize.SL.RA Idealize.SL.BI Idealize.SL.ProofMode
open scoped Idealize.SL.BI
open Idealize.SL.BI.BIBase Idealize.SL.BI.Laws Idealize.SL.Sem
open Idealize.SL.BI (sProp)
open Cert.KernelIdeal.Gen

variable {F : FTy → Type} [FloatOps F]

/-! ## The algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

instance er_lands : (ER (F := F)).LandsIn (upEmb : UEmb _ 𝕄) := by unfold ER embR; infer_instance
instance ec_lands : (EC (F := F)).LandsIn (upEmb : UEmb _ 𝕄) := by infer_instance

/-! ## Cells -/

abbrev barS : Sem sig := sig.barrier 0 rfl
abbrev bar (c : Dev nD) : GSem nD τ sig := ((c : Thread nD τ), .reg barS)
abbrev gS (c : Dev nD) (t : Task) : GSem nD τ sig := ((c : Thread nD τ), .dma t.snd.sem)
abbrev gR (c : Dev nD) (t : Task) : GSem nD τ sig := ((c : Thread nD τ), .dma t.cell.sem)

/-- A semaphore read back as the transfer end it counts, if any. -/
def dec (s : SemLoc sig) : Option (Task × Bool) := by
  classical
  exact if h : ∃ p, s = .dma (cs p) then some h.choose else none
theorem dec_cs (p : Task × Bool) : dec (.dma (cs p)) = some p := by
  unfold dec
  have h : ∃ q, (SemLoc.dma (cs p) : SemLoc sig) = .dma (cs q) := ⟨p, rfl⟩
  rw [dif_pos h]
  have := h.choose_spec
  injection this with this
  rw [← cs_inj this]
theorem dec_snd (t : Task) : dec (.dma t.snd.sem) = some (t, false) := dec_cs (t, false)
theorem dec_cell (t : Task) : dec (.dma t.cell.sem) = some (t, true) := dec_cs (t, true)

/-- One transfer's credit. -/
abbrev N : ℕ := (RV : Memref sig .tc .vmem S512x1024 .bf16).view.dmaCredit
theorem N_pos : 0 < N := View.dmaCredit_pos _ (by decide)

/-! ## Contents -/

variable (m : (ℓ : Loc nD τ sig) → Buf (Elt F) ℓ)

/-- The rows of device `o`'s argument that chunk `b` names, -/
def xV (o : Dev nD) (b : Blk) : FVec F S512x1024 .f32 := (b.of X).view.read (Elt F) (m ((o : Thread nD τ).loc main_arg0))
/-- the same rounded to the transfer's format, -/
def xbV (o : Dev nD) (b : Blk) : FVec F S512x1024 .bf16 := truncf .bf16 (xV m o b) bitsLt_bf16_f32
/-- and the chunk of the result: device `c`'s rows and those received, added. -/
def outV (c : Dev nD) (t : Task) : FVec F S512x1024 .bf16 := k0_pay14 (xV m c (t.ch.blk c)) (xbV m (t.org c) (t.ch.blk c))

/-- A memref held at contents unknown. -/
def anyP (c : Dev nD) {sp : Space} {s : Shape} {e : EltTy} (M : Memref sig .tc sp s e) : sProp 𝕄 :=
  iprop(∃ V : s.Idx → Elt F e, owns (c : Thread nD τ) M fullShare V)
/-- The receive buffer's rows for task `t` at device `c`, contents unknown; and received. -/
def anyR (c : Dev nD) (t : Task) : sProp 𝕄 := anyP c ((t.ch.blk c).of RECV)
def gotR (c : Dev nD) (t : Task) : sProp 𝕄 := owns (c : Thread nD τ) ((t.ch.blk c).of RECV) fullShare (xbV m (t.org c) (t.ch.blk c))

instance anyP_storable (c : Dev nD) {sp : Space} {s : Shape} {e : EltTy} (M : Memref sig .tc sp s e) :
    BI.Storable (upEmb : UEmb _ 𝕄) (anyP c M) := by unfold anyP; infer_instance
instance anyR_storable (c : Dev nD) (t : Task) : BI.Storable (upEmb : UEmb _ 𝕄) (anyR c t) := by unfold anyR; infer_instance
instance gotR_storable (c : Dev nD) (t : Task) : BI.Storable (upEmb : UEmb _ 𝕄) (gotR m c t) := by unfold gotR; infer_instance

/-! ## The schedule -/

def kinds (k : Fin 3) : Finset Task := Finset.univ.filter fun t => t.kind = k

/-- What neighbour `k`'s signal hands `c`: the rows of its receive buffer `c` will write. -/
def barPay (c : Dev nD) (k : Fin 3) : sProp 𝕄 := bigSep (kinds k) fun t => anyR (nb k c) t
instance barPay_storable (c : Dev nD) (k : Fin 3) : BI.Storable (upEmb : UEmb _ 𝕄) (barPay c k) := by unfold barPay; infer_instance

/-- What the semaphore of a transfer's end carries: at the receiver, the rows received; at the sender nothing. -/
def endPay (c : Dev nD) : Option (Task × Bool) → sProp 𝕄
  | some (t, true) => gotR m c t
  | _ => iprop(emp)
instance endPay_storable (c : Dev nD) (o : Option (Task × Bool)) : BI.Storable (upEmb : UEmb _ 𝕄) (endPay m c o) := by
  rcases o with _ | ⟨t, _ | _⟩ <;> (unfold endPay; infer_instance)

/-- One round: a barrier cell's three signals of one unit, a transfer end's credit. -/
def Rd : Rounds.Schedule (GSem nD τ sig) (Fin 3) 𝕄 where
  duties g r := if r = 0 ∧ g.1.2 = .tc then (if g.2 = .reg barS then Finset.univ else if (dec g.2).isSome then {0} else ∅) else ∅
  unitless _ := False
  amount g _ _ := if g.2 = .reg barS then 1 else N
  payload g _ d := if g.2 = .reg barS then barPay g.1.1 d else endPay m g.1.1 (dec g.2)
  amount_pos g _ _ _ := by
    by_cases h : g.2 = .reg barS
    · rw [if_pos h]; exact Nat.one_pos
    · rw [if_neg h]; exact N_pos

instance Rd_storable (g : GSem nD τ sig) (r : ℕ) (d : Fin 3) : BI.Storable (upEmb : UEmb _ 𝕄) ((Rd (F := F) m).payload g r d) := by
  show BI.Storable upEmb (if g.2 = .reg barS then barPay g.1.1 d else endPay m g.1.1 (dec g.2))
  split <;> infer_instance

theorem dma_ne_bar (s : DmaSem sig) : (SemLoc.dma s : SemLoc sig) ≠ .reg barS := fun h => by cases h

section Tables
variable (c : Dev nD) (t : Task)

theorem duties_bar : (Rd (F := F) m).duties (bar c) 0 = Finset.univ := by dsimp only [Rd]; rw [if_pos ⟨rfl, rfl⟩, if_pos rfl]
theorem duties_S : (Rd (F := F) m).duties (gS c t) 0 = {0} := by
  dsimp only [Rd]; rw [if_pos ⟨rfl, rfl⟩, if_neg (dma_ne_bar _), dec_snd]; rfl
theorem duties_R : (Rd (F := F) m).duties (gR c t) 0 = {0} := by
  dsimp only [Rd]; rw [if_pos ⟨rfl, rfl⟩, if_neg (dma_ne_bar _), dec_cell]; rfl
theorem duties_later (g : GSem nD τ sig) : ∀ r, 1 ≤ r → (Rd (F := F) m).duties g r = ∅ :=
  fun r hr => by dsimp only [Rd]; rw [if_neg fun h => by omega]

theorem amount_bar (d : Fin 3) : (Rd (F := F) m).amount (bar c) 0 d = 1 := by dsimp only [Rd]; exact if_pos rfl
theorem amount_S (d : Fin 3) : (Rd (F := F) m).amount (gS c t) 0 d = N := by dsimp only [Rd]; exact if_neg (dma_ne_bar _)
theorem amount_R (d : Fin 3) : (Rd (F := F) m).amount (gR c t) 0 d = N := by dsimp only [Rd]; exact if_neg (dma_ne_bar _)

theorem expect_bar : (Rd (F := F) m).expect (bar c) 0 = 3 := by
  unfold Schedule.expect Schedule.amountOf
  rw [duties_bar, Finset.sum_congr rfl fun d _ => amount_bar m c d, Finset.sum_const, Finset.card_univ, Fintype.card_fin, smul_eq_mul]
theorem expect_S : (Rd (F := F) m).expect (gS c t) 0 = N := by
  unfold Schedule.expect Schedule.amountOf; rw [duties_S, Finset.sum_singleton, amount_S]
theorem expect_R : (Rd (F := F) m).expect (gR c t) 0 = N := by
  unfold Schedule.expect Schedule.amountOf; rw [duties_R, Finset.sum_singleton, amount_R]

theorem payload_bar (d : Fin 3) : (Rd (F := F) m).payload (bar c) 0 d = barPay c d := by dsimp only [Rd]; exact if_pos rfl
theorem payload_S (d : Fin 3) : (Rd (F := F) m).payload (gS c t) 0 d = iprop(emp) := by
  dsimp only [Rd]; rw [if_neg (dma_ne_bar _), dec_snd]; rfl
theorem payload_R (d : Fin 3) : (Rd (F := F) m).payload (gR c t) 0 d = gotR m c t := by
  dsimp only [Rd]; rw [if_neg (dma_ne_bar _), dec_cell]; rfl

theorem rest_bar : bigSep ((Rd (F := F) m).duties (bar c) 0 \ ∅) (fun d => (Rd (F := F) m).payload (bar c) 0 d)
    = bigSep Finset.univ fun d => barPay c d := by
  rw [Finset.sdiff_empty, duties_bar]; exact bigSep_congr fun d _ => payload_bar m c d
theorem rest_R : bigSep ((Rd (F := F) m).duties (gR c t) 0 \ ∅) (fun d => (Rd (F := F) m).payload (gR c t) 0 d) = gotR m c t := by
  rw [Finset.sdiff_empty, duties_R, bigSep_singleton, payload_R]

end Tables

/-! ## What is owed; levels -/

/-- The credits owed for a list of transfers. -/
def owedL (c : Dev nD) : List Task → CellTallies nD τ sig Unit
  | [] => 0
  | t :: l => owedL c l + tallyAt (gR (t.dst c) t) () N

def O₁ (c : Dev nD) : CellTallies nD τ sig Unit := owedL c payAll + tallyAt (bar (zp c)) () 1
def O₂ (c : Dev nD) : CellTallies nD τ sig Unit := O₁ c + tallyAt (bar (yp c)) () 1
/-- What a device owes at launch: every transfer it makes and its three signals. -/
def O₀ (c : Dev nD) : CellTallies nD τ sig Unit := O₂ c + tallyAt (bar (xp c)) () 1

def L (g : GSem nD τ sig) : Finset Unit := if g.1.2 = .tc then {()} else ∅
def lv (g : GSem nD τ sig) (_ : Unit) : ℕ := if g.2 = .reg barS then 1 else match dec g.2 with
  | some (t, true) => t.lvl
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (bar c) () = 1 := if_pos rfl
theorem lv_R (c : Dev nD) (t : Task) : lv (gR c t) () = t.lvl := by
  unfold lv; rw [if_neg (dma_ne_bar _), dec_cell]
theorem lv_S (c : Dev nD) (t : Task) : lv (gS c t) () = 0 := by
  unfold lv; rw [if_neg (dma_ne_bar _), dec_snd]

theorem owedL_pos {c : Dev nD} {l : List Task} {g : GSem nD τ sig} {u : Unit} (h : 0 < owedL c l g u) :
    ∃ t ∈ l, g = gR (t.dst c) t := by
  induction l with
  | nil => exact absurd h (Nat.lt_irrefl 0)
  | cons t l ih =>
    unfold owedL at h
    rw [Pi.add_apply, Finsupp.add_apply, tallyAt_apply] at h
    by_cases hg : g = gR (t.dst c) t ∧ u = ()
    · exact ⟨t, List.mem_cons_self .., hg.1⟩
    · rw [if_neg hg, Nat.add_zero] at h
      obtain ⟨t', ht', e⟩ := ih h
      exact ⟨t', List.mem_cons_of_mem _ ht', e⟩

/-- A device may wait on a semaphore of its own that is below every transfer it still owes. -/
theorem mayWait (c : Dev nD) (sm : SemLoc sig) (n : ℕ) (hn : lv ((c : Thread nD τ), sm) () = n) (l : List Task) (h : ∀ p ∈ l, n < p.lvl) :
    (levAts L lv : sProp 𝕄) ⊢ MayWait (c : Thread nD τ) sm () (owedL c l) :=
  MayOwe.of_cut (L := L) (lev := lv) n (fun p hp => by rw [Finset.mem_singleton.mp hp, L_tc]; exact Finset.mem_singleton_self _)
    (fun g u hg => by obtain ⟨t, -, rfl⟩ := owedL_pos hg; exact Finset.mem_singleton_self _)
    (fun p hp => by rw [Finset.mem_singleton.mp hp]; exact hn.le)
    (fun g u hg => by obtain ⟨t, ht, rfl⟩ := owedL_pos hg; rw [lv_R]; exact h t ht)

end Cert.KernelIdeal.RS

end
-- ==== Proof.Rules.lean ====
/- The kernel's effects, one rule each, over memrefs held at contents (`owns`). -/
module

public import proofs.«01_k».proof.Proof.Sched
public import Idealize.ShloMosaic.Lib.Pipeline.Value
public import Idealize.ShloMosaic.Lib.VecWindow

@[expose] public section

set_option maxRecDepth 10000

noncomputable section

namespace Cert.KernelIdeal.RS

open Idealize.ShloMosaic Idealize.ShloMosaic.TcCoe Idealize.ShloMosaic.Rounds Idealize.ShloMosaic.Transfers
open Idealize.SL Idealize.SL.RA Idealize.SL.BI Idealize.SL.ProofMode
open scoped Idealize.SL.BI
open Idealize.SL.BI.BIBase Idealize.SL.BI.Laws Idealize.SL.Sem
open Idealize.SL.BI (sProp)
open Cert.KernelIdeal.Gen

variable {F : FTy → Type} [FloatOps F]

local notation "𝕄" => MT nD τ sig Unit (Elt F) ℕ UU ℕ

/-- A proposition of the logic. -/
abbrev SP (F : FTy → Type) : Type _ := sProp (MT nD τ sig Unit (Elt F) ℕ UU ℕ)

abbrev 𝒱₀ : Variants := Variants.none

/-- The weakest precondition of a program of device `c`'s core. -/
abbrev WP (c : Dev nD) {α : Type} (p : PG F α) (Q : α → sProp 𝕄) : sProp 𝕄 :=
  wp frame (wpE (defs₀ (F := F)) 𝒱₀ (c : Thread nD τ) none) Set.univ p Q

theorem WP_ret (c : Dev nD) {α : Type} (a : α) (Q : α → SP F) : Q a ⊢ WP c (.ret a) Q := by
  unfold WP; rw [wp_ret]; exact fupd_intro
theorem WP_bind (c : Dev nD) {α β : Type} (p : PG F α) (k : α → PG F β) (Q : β → SP F) :
    WP c (p >>= k) Q = WP c p fun a => WP c (k a) Q := by unfold WP; rw [wp_bind]

variable (m : (ℓ : Loc nD τ sig) → Buf (Elt F) ℓ)

/-- What device `c` owes for a list of transfers, whatever it has waited for. -/
def owesX (c : Dev nD) (l : List Task) : sProp 𝕄 := iprop(∃ W, owes (c : Thread nD τ) (owedL c l) W)

/-- A copy of the device's own in flight on semaphore `s`, to deliver `D`. -/
abbrev Fl (c : Dev nD) (s : DmaSem sig) (n : ℕ) (D : sProp 𝕄) : sProp 𝕄 := Flight EC (c : Thread nD τ) (.dma s) () n D

abbrev sv (c : Dev nD) (s : DmaSem sig) : sProp 𝕄 := semVal ((c : Thread nD τ), SemLoc.dma s) 0

section Local
variable (c : Dev nD) {sp sp' : Space} {s : Shape} {e : EltTy} {α : Type} {Q : α → SP F}

/-- Starting a copy: the destination is to arrive at the source's contents, and the source's share to come back. -/
theorem wp_here {src : Memref sig .tc sp s e} {dst : Memref sig .tc sp' s e} {sm : DmaSem sig}
    {hsrc : src.view.WordExact} {hdst : dst.view.WordExact} {hsem : DmaTarget.Typed (nD := nD) (τ := τ) sp (.dma sm) (.here (p := .tc) dst)}
    {k : PUnit → PG F α} (q : PosShare TreeShare) (V : s.Idx → Elt F e) (h0 : 0 < dst.view.dmaCredit) :
    iprop(owns (c : Thread nD τ) src q V ∗ anyP c dst ∗ sv c sm)
      ⊢ iprop((Fl c sm dst.view.dmaCredit iprop(owns (c : Thread nD τ) dst fullShare V ∗ owns (c : Thread nD τ) src q V) -∗ WP c (k ⟨⟩) Q)
          -∗ WP c (.op (.enqueueDma src (.here dst) (.dma sm) hsrc hdst hsem) k) Q) := by
  unfold anyP
  conv_lhs => unfold owns
  iintro ⟨⟨%fs, %hs, Hs⟩, ⟨%U, %fd, %hd, Hd⟩, Hv⟩ Hk
  iapply (wp_dmaLocal EC 𝒱₀ (c : Thread nD τ) none (src := src) (dst := dst) (q := q) (fs := fs) (fd := fd) () dst.view.dmaCredit rfl h0 subset_rfl) $$ [Hs Hd Hv]
  · isplitl [Hs]; · iexact Hs
    isplitl [Hd] <;> iassumption
  iintro HF
  iapply Hk
  iapply (Flight_mono EC (c : Thread nD τ) ?_) $$ HF
  iintro ⟨Hd, Hs⟩
  unfold owns
  isplitl [Hd]
  · iexists _
    isplitr; swap; · iexact Hd
    ipureintro
    rw [View.read_write_univ]; exact hs
  · iexists fs
    isplitr; · ipureintro; exact hs
    iexact Hs

/-- Waiting for a copy of its own, below everything owed. -/
theorem wp_waitFl {s' : Shape} {e' : EltTy} {sm : DmaSem sig} {srcw : Memref sig .tc sp' s' e'} {dstw : Memref sig .tc sp s e}
    {hsrc : srcw.view.WordExact} {hdst : dstw.view.WordExact} {k : PUnit → PG F α} {n : ℕ} (hN : dstw.view.dmaCredit = n) {D : sProp 𝕄}
    (l : List Task) (hl : lv ((c : Thread nD τ), .dma sm) () = 0) :
    iprop(Fl c sm n D ∗ owesX c l ∗ levAts L lv)
      ⊢ iprop((iprop(D ∗ sv c sm ∗ owesX c l) -∗ WP c (k ⟨⟩) Q)
          -∗ WP c (.op (.waitDma2 sm srcw dstw hsrc hdst) k) Q) := by
  unfold owesX
  iintro ⟨HF, ⟨%W, HO⟩, #Hlev⟩ Hk
  iapply (wp_waitLocalO EC 𝒱₀ (c : Thread nD τ) none () hN (O := owedL c l) (W := W)) $$ [HF HO]
  · isplitl [HF]; · iexact HF
    isplitl [HO]; · iexact HO
    iapply (mayWait c (.dma sm) 0 hl l (fun p _ => lt_of_lt_of_le (by decide) (lvl_pos p))); iexact Hlev
  iintro ⟨HD, Hv, HO⟩
  iapply Hk
  isplitl [HD]; · iexact HD
  isplitl [Hv]; · iexact Hv
  iexists _; iexact HO

end Local

/-! ## Loads and stores -/

section Vec
variable (c : Dev nD) {α : Type} {Q : α → SP F}

theorem fvSet (i : Fin 3) : (FVs i).view.set = FV.view.setOn (rFV i).set :=
  (View.set_reshape (FV.view.slice (rFV i)) _).trans (View.set_slice _ _)

theorem bvSet (i : Fin 2) : (BVs i).view.set = BV.view.setOn (rBV i).set :=
  (View.set_reshape (BV.view.slice (rBV i)) _).trans (View.set_slice _ _)

/-- The chunk in a load buffer, as the kernel reads it. -/
theorem wp_loadFV (i : Fin 3) {hl : FV.view.LoadsAt (rFV i).toLoadRect} {k : Vec F S1x512x1024 .f32 → PG F α} (V : FVec F S512x1024 .f32) :
    (owns (c : Thread nD τ) (FVs i) fullShare V)
      ⊢ iprop((∀ v : Vec F S1x512x1024 .f32, ⌜shapeCast S512x1024 v shapeCasts_S1x512x1024_S512x1024 = V⌝
            -∗ owns (c : Thread nD τ) (FVs i) fullShare V -∗ WP c (k v) Q)
          -∗ WP c (.op (.load FV (rFV i).toLoadRect hl) k) Q) := by
  unfold owns
  iintro ⟨%f, %hf, H⟩ Hk
  iapply (wp_load 𝒱₀ (c : Thread nD τ) none Set.univ (m := FV) (S := (FVs i).view.set)
    (fvSet i).superset) $$ H
  iintro H
  iapply Hk $$ %_ [] [H]
  · ipureintro; exact hf
  · iexists f; isplitr; · ipureintro; exact hf
    iexact H

theorem wp_loadBV (i : Fin 2) {hl : BV.view.LoadsAt (rBV i).toLoadRect} {k : Vec F S1x512x1024 .bf16 → PG F α} :
    (anyP c (BVs i))
      ⊢ iprop((∀ v : Vec F S1x512x1024 .bf16, anyP c (BVs i) -∗ WP c (k v) Q)
          -∗ WP c (.op (.load BV (rBV i).toLoadRect hl) k) Q) := by
  unfold anyP owns
  iintro ⟨%V, %f, %hf, H⟩ Hk
  iapply (wp_load 𝒱₀ (c : Thread nD τ) none Set.univ (m := BV) (S := (BVs i).view.set)
    (bvSet i).superset) $$ H
  iintro H
  iapply Hk $$ %_ [H]
  iexists V; iexists f; isplitr; · ipureintro; exact hf
  iexact H

theorem wp_storeBV (i : Fin 2) {w : Vec F S1x512x1024 .bf16} {hx : (BV.access (rBV i)).Stores Finset.univ} {hm : (Finset.univ : Finset (rBV i).shape.Idx) = Finset.univ ∨ ∀ a, (rBV i).stride a = 1} {k : PUnit → PG F α} :
    (anyP c (BVs i))
      ⊢ iprop((owns (c : Thread nD τ) (BVs i) fullShare (shapeCast S512x1024 w shapeCasts_S1x512x1024_S512x1024) -∗ WP c (k ⟨⟩) Q)
          -∗ WP c (.op (.store BV (rBV i) w Finset.univ hx hm) k) Q) := by
  unfold anyP owns
  iintro ⟨%V, %f, %hf, H⟩ Hk
  iapply (wp_store 𝒱₀ (c : Thread nD τ) none Set.univ (m := BV) (r := rBV i) (Mk := Finset.univ) (S := (BVs i).view.set)
    (View.set_reshape (BV.access (rBV i)) _).superset) $$ H
  iintro H
  iapply Hk
  iexists _; isplitr; swap; · iexact H
  ipureintro
  have h : ((BV.access (rBV i)).read (Elt F) ((BV.access (rBV i)).write (Elt F) f w Finset.univ)) = w := View.read_write_univ _ _
  conv_rhs => rw [← h]
  rfl

theorem hz2 : (![0, 0] : Fin 2 → Nat) = fun _ => 0 := funext fun a => by fin_cases a <;> rfl

/-- Loading a whole one-chunk buffer. -/
theorem wp_loadW {e : EltTy} (M : Memref sig .tc .vmem S512x1024 e)
    {hl : M.view.LoadsAt rV.toLoadRect} {k : (rV.shape.Idx → Elt F e) → PG F α} (V : S512x1024.Idx → Elt F e) :
    (owns (c : Thread nD τ) M fullShare V)
      ⊢ iprop((owns (c : Thread nD τ) M fullShare V -∗ WP c (k V) Q)
          -∗ WP c (.op (.load M rV.toLoadRect hl) k) Q) := by
  unfold owns
  iintro ⟨%f, %hf, H⟩ Hk
  have hr : M.view.readAt (Elt F) rV.toLoadRect f = V := by
    rw [← hf]; exact View.readAt_full _ _ _
  iapply (wp_load 𝒱₀ (c : Thread nD τ) none Set.univ (m := M) (S := M.view.set) (Finset.map_subset_map.mpr (Finset.subset_univ _))) $$ H
  iintro H
  rw [hr]
  iapply Hk
  iexists f; isplitr; · ipureintro; exact hf
  iexact H

/-- Storing a whole one-chunk buffer. -/
theorem wp_storeOV {w : Vec F S512x1024 .bf16} {hx : (OV.access rV).Stores Finset.univ} {hm : (Finset.univ : Finset rV.shape.Idx) = Finset.univ ∨ ∀ a, rV.stride a = 1} {k : PUnit → PG F α} :
    (anyP c OV)
      ⊢ iprop((owns (c : Thread nD τ) OV fullShare w -∗ WP c (k ⟨⟩) Q)
          -∗ WP c (.op (.store OV rV w Finset.univ hx hm) k) Q) := by
  unfold anyP owns
  iintro ⟨%V, %f, %hf, H⟩ Hk
  iapply (wp_store 𝒱₀ (c : Thread nD τ) none Set.univ (m := OV) (r := rV) (Mk := Finset.univ) (S := OV.view.set)
    (by rw [show OV.view.set = Finset.univ from View.set_whole _]; exact Finset.subset_univ _)) $$ H
  iintro H
  iapply Hk
  iexists _; isplitr; swap; · iexact H
  ipureintro
  exact (View.read_whole _ _).trans (Memref.write_access_unit_zero_univ (Elt F) cc0_scratch10 hz2 _ f w)

theorem wp_loadOV {hl : OV.view.LoadsAt rV.toLoadRect} {k : Vec F S512x1024 .bf16 → PG F α} :
    (anyP c OV)
      ⊢ iprop((∀ v : Vec F S512x1024 .bf16, anyP c OV -∗ WP c (k v) Q)
          -∗ WP c (.op (.load OV rV.toLoadRect hl) k) Q) := by
  unfold anyP
  iintro ⟨%V, H⟩ Hk
  iapply (wp_loadW c OV V) $$ H
  iintro H
  iapply Hk $$ %_ [H]
  iexists V; iexact H

end Vec

/-! ## Transfers and signals between devices -/

/-- The cells with a schedule: per device its barrier cell and both ends of every transfer. -/
abbrev KC : Type := Option (Task × Bool)
def ksem : KC → SemLoc sig
  | none => .reg barS
  | some p => .dma (cs p)
def kcell (i : Dev nD × KC) : GSem nD τ sig := ((i.1 : Thread nD τ), ksem i.2)

/-- What everyone knows: each cell's invariant, that each has reached its round, and the levels. -/
def recs (K : Dev nD × KC → ℕ) : SP F :=
  iprop((bigSep Finset.univ fun i => cellInv ER (Rd m) (K i) (kcell i)) ∗ bigSep Finset.univ fun i => reached ER (kcell i) 0)
def ctx (K : Dev nD × KC → ℕ) : SP F := iprop(recs m K ∗ levAts L lv)

instance recs_persistent (K : Dev nD × KC → ℕ) : BI.Persistent (recs m K) := by unfold recs; infer_instance
instance ctx_persistent (K : Dev nD × KC → ℕ) : BI.Persistent (ctx m K) := by unfold ctx; infer_instance

theorem ctx_lev (K : Dev nD × KC → ℕ) : ctx m K ⊢ (levAts L lv : SP F) := by
  unfold ctx; iintro ⟨-, H⟩; iexact H
theorem inv_at (K : Dev nD × KC → ℕ) (i : Dev nD × KC) :
    (bigSep Finset.univ fun i => (cellInv ER (Rd m) (K i) (kcell i) : SP F)) ⊢ cellInv ER (Rd m) (K i) (kcell i) :=
  bigSep_elim (Finset.mem_univ i)
theorem reached_at (i : Dev nD × KC) : (bigSep Finset.univ fun i : Dev nD × KC => (reached ER (kcell i) 0 : SP F)) ⊢ reached ER (kcell i) 0 :=
  bigSep_elim (Finset.mem_univ i)
theorem ctx_inv (K : Dev nD × KC → ℕ) (i : Dev nD × KC) : ctx m K ⊢ cellInv ER (Rd m) (K i) (kcell i) := by
  unfold ctx recs; iintro ⟨⟨H, -⟩, -⟩; iapply (inv_at m K i); iexact H
theorem ctx_reached (K : Dev nD × KC → ℕ) (i : Dev nD × KC) : ctx m K ⊢ (reached ER (kcell i) 0 : SP F) := by
  unfold ctx recs; iintro ⟨⟨-, H⟩, -⟩; iapply (reached_at i); iexact H

theorem ctx_mayWait (K : Dev nD × KC → ℕ) (c : Dev nD) (sm : SemLoc sig) (n : ℕ) (hn : lv ((c : Thread nD τ), sm) () = n) (l : List Task) (h : ∀ p ∈ l, n < p.lvl) :
    ctx m K ⊢ (MayWait (c : Thread nD τ) sm () (owedL c l) : SP F) := (ctx_lev (F := F) m K).trans (mayWait (F := F) c sm n hn l h)
theorem ctx_bar (K : Dev nD × KC → ℕ) (c : Dev nD) : ctx m K ⊢ cellInv ER (Rd m) (K (c, none)) (bar c) := ctx_inv m K (c, none)
theorem ctx_S (K : Dev nD × KC → ℕ) (c : Dev nD) (t : Task) : ctx m K ⊢ cellInv ER (Rd m) (K (c, some (t, false))) (gS c t) := ctx_inv m K (c, some (t, false))
theorem ctx_R (K : Dev nD × KC → ℕ) (c : Dev nD) (t : Task) : ctx m K ⊢ cellInv ER (Rd m) (K (c, some (t, true))) (gR c t) := ctx_inv m K (c, some (t, true))
theorem reached_bar (K : Dev nD × KC → ℕ) (c : Dev nD) : ctx m K ⊢ (reached ER (bar c) 0 : SP F) := ctx_reached m K (c, none)
theorem reached_S (K : Dev nD × KC → ℕ) (c : Dev nD) (t : Task) : ctx m K ⊢ (reached ER (gS c t) 0 : SP F) := ctx_reached m K (c, some (t, false))
theorem reached_R (K : Dev nD × KC → ℕ) (c : Dev nD) (t : Task) : ctx m K ⊢ (reached ER (gR c t) 0 : SP F) := ctx_reached m K (c, some (t, true))

attribute [local irreducible] Cell.sem cs

/-- What a device sends transfer `t` with: the right to, at both ends, and the receiver's rows. -/
def sendRes (c : Dev nD) (t : Task) : SP F :=
  iprop(dutyTok ER (gS c t) 0 0 ∗ dutyTok ER (gR (t.dst c) t) 0 0 ∗ anyR (t.dst c) t)
/-- The credit of a transfer sent, and of one to receive. -/
def crS (c : Dev nD) (t : Task) : SP F := cred (tallyAt (gS c t) () N)
def crR (c : Dev nD) (t : Task) : SP F := cred (tallyAt (gR c t) () N)
abbrev atS (c : Dev nD) (t : Task) (r : ℕ) : SP F := atPos ER (gS c t) r ∅ 0
abbrev atR (c : Dev nD) (t : Task) (r : ℕ) : SP F := atPos ER (gR c t) r ∅ 0

section Remote
variable (K : Dev nD × KC → ℕ) (c : Dev nD) (t : Task) (l : List Task)

theorem owedL_cons : owedL c (t :: l) = owedL c l + tallyAt (gR (t.dst c) t) () N := rfl
theorem amountN (b : Blk) (s : DmaSem sig) : (b.of RECV).view.amount (.dma s) = N := rfl

/-- A chunk landing in the receiver's rows. -/
theorem landed_pay (V : FVec F S512x1024 .bf16) (hV : V = xbV m (t.org c) (t.ch.blk c)) (fd : Buf (Elt F) (((t.ch.blk c).of RECV).view.loc (c : Thread nD τ))) :
    (((t.ch.blk c).of RECV).view.loc (c : Thread nD τ) ↦[((t.ch.blk c).of RECV).view.set]{fullShare}
      (((t.ch.blk c).of RECV).view.write (Elt F) fd V Finset.univ) : SP F) ⊢ (Rd m).payload (gR c t) 0 0 := by
  rw [payload_R]; unfold gotR owns
  iintro H
  iexists _
  isplitr; swap; · iexact H
  ipureintro
  rw [View.read_write_univ]; exact hV

theorem route (c d : Dev nD) : τ.routes (c : Thread nD τ) (d : Thread nD τ) = true := by routes

/-- The transfer's rule at the protocol's cells. -/
theorem wp_sendOp {α : Type} {Q : α → SP F} {k : PUnit → PG F α} (q : PosShare TreeShare)
    {M : Memref sig .tc .hbm S512x1024 .bf16} {D : Memref sig .tc .hbm S512x1024 .bf16} (hD : D = (t.ch.blk (t.dst c)).of RECV)
    {hsc : D.view.ref.isScScratch = false} {hsrc : M.view.WordExact} {hdst : D.view.WordExact}
    {hsem : DmaTarget.Typed .hbm (.dma t.cell.sem) (.remote (Dev.tc (t.dst c) : Thread nD τ) D (.dma t.snd.sem) hsc)}
    (V : FVec F S512x1024 .bf16) (hV : V = xbV m (t.org (t.dst c)) (t.ch.blk (t.dst c))) :
    iprop(ctx m K ∗ owns (c : Thread nD τ) M q V ∗ sendRes c t ∗ owesX c (t :: l))
      ⊢ iprop((iprop(crS c t ∗ owesX c l) -∗ WP c (k ⟨⟩) Q)
          -∗ WP c (.op (.enqueueDma M (.remote (Dev.tc (t.dst c) : Thread nD τ) D (.dma t.snd.sem) hsc) (.dma t.cell.sem) hsrc hdst hsem) k) Q) := by
  subst hD
  unfold sendRes owesX anyR anyP crS
  conv_lhs => unfold owns
  iintro ⟨#Hctx, ⟨%fs, %hs, Hs⟩, ⟨HtS, HtR, ⟨%V, %fd, -, Hd⟩⟩, ⟨%W, HO⟩⟩ Hk
  iapply (Rounds.wp_send_pointsTo 𝒱₀ ER (Rd m) (c : Thread nD τ) none (κ₁ := K (c, some (t, false))) (κ₂ := K (t.dst c, some (t, true)))
    (c' := (t.dst c : Thread nD τ)) (src := M) (dst := (t.ch.blk (t.dst c)).of RECV) (sS := .dma t.snd.sem) (sem := .dma t.cell.sem)
    (r₁ := 0) (r₂ := 0) (d₁ := 0) (d₂ := 0) (fs := fs) (fd := fd) (q := q)
    (by rw [duties_S]; exact Finset.mem_singleton_self _) (by rw [duties_R]; exact Finset.mem_singleton_self _)
    () () N (amountN (t.ch.blk (t.dst c)) t.cell.sem) (amount_S m c t 0) (amount_R m (t.dst c) t 0) (owedL c l) (owedL_cons c t l) (W := W)
    (by rw [payload_S]; iintro -; iempintro)
    (landed_pay m (t.dst c) t _ (hs.trans hV) fd)
    (route c (t.dst c))) $$ [Hs Hd HO HtS HtR]
  · isplitr; · iapply (ctx_S m K c t); iexact Hctx
    isplitr; · iapply (ctx_R m K (t.dst c) t); iexact Hctx
    isplitl [Hs]; · iexact Hs
    isplitl [Hd]; · iexact Hd
    isplitl [HO]; · iexact HO
    isplitl [HtS]; · iexact HtS
    isplitr; · iapply (reached_S m K c t); iexact Hctx
    isplitl [HtR]; · iexact HtR
    iapply (reached_R m K (t.dst c) t); iexact Hctx
  iintro ⟨HC, HO⟩
  iapply Hk
  isplitl [HC]; · iexact HC
  iexists W; iexact HO

theorem wp_sendP (q : PosShare TreeShare) (b : Blk) (o p : Dev nD) (hp : p = t.dst c) (hb : b = t.ch.blk p) (ho : o = t.org p)
    (M : Memref sig .tc .hbm S16384x1024 .bf16) (hM : M.IsWhole) (sS sR : DmaSem sig) (hS : sS = t.snd.sem) (hR : sR = t.cell.sem) {Q : PUnit → SP F} :
    iprop(ctx m K ∗ owns (c : Thread nD τ) (b.of M) q (xbV m o b) ∗ sendRes c t ∗ owesX c (t :: l)
        ∗ (iprop(crS c t ∗ owesX c l) -∗ Q ⟨⟩))
      ⊢ WP c (sendP b M hM p sS sR) Q := by
  subst hb ho hp hS hR
  unfold sendP
  simp only [Prog.lift]
  iintro ⟨#Hctx, Hs, Ht, HO, Hk⟩
  iapply (wp_sendOp m K c t l q rfl _ rfl) $$ [Hs Ht HO]
  · isplitr; · iexact Hctx
    isplitl [Hs]; · iexact Hs
    isplitl [Ht] <;> iassumption
  iintro H
  iapply WP_ret
  iapply Hk; iexact H

/-- Receiving chunk `t`, below everything still owed. -/
theorem wp_waitR {Q : PUnit → SP F} (h : ∀ p ∈ l, t.lvl < p.lvl) (b : Blk) (M M' : Memref sig .tc .hbm S16384x1024 .bf16) (hM : M.IsWhole) (hM' : M'.IsWhole) :
    iprop(ctx m K ∗ crR c t ∗ owesX c l ∗ atR c t 0 ∗ (iprop(gotR m c t ∗ atR c t (0 + 1) ∗ owesX c l) -∗ Q ⟨⟩))
      ⊢ WP c (waitP b t.cell.sem M M' hM hM') Q := by
  unfold waitP owesX crR
  simp only [Prog.lift]
  iintro ⟨#Hctx, HC, ⟨%W, HO⟩, Hat, Hk⟩
  iapply (Rounds.wp_wait_rest_token 𝒱₀ ER (Rd m) (c : Thread nD τ) none (κ := K (c, some (t, true)))
      (wpE_waitDma2_eq 𝒱₀ (c : Thread nD τ) none Set.univ) (Set.mem_univ _) () (O := owedL c l) (W := W) (R := 0) (m := 0) (T := ∅)
      (by rw [Nat.zero_add, expect_R])) $$ [HC HO Hat]
  · isplitr; · iapply (ctx_R m K c t); iexact Hctx
    isplitl [HC]; · iexact HC
    isplitl [HO]; · iexact HO
    isplitr; · iapply (ctx_mayWait m K c (.dma t.cell.sem) _ (lv_R c t) l h); iexact Hctx
    iexact Hat
  iintro ⟨HO, Hat, -, Hpay⟩
  ihave Hp := (Entails.of_eq (rest_R m c t)) $$ Hpay
  iapply WP_ret
  iapply Hk
  isplitl [Hp]; · iexact Hp
  isplitl [Hat]; · iexact Hat
  iexists _; iexact HO

/-- Waiting until transfer `t` has left, nothing owed. -/
theorem wp_waitS {Q : PUnit → SP F} (b : Blk) (M M' : Memref sig .tc .hbm S16384x1024 .bf16) (hM : M.IsWhole) (hM' : M'.IsWhole) (sS : DmaSem sig) (hS : sS = t.snd.sem) :
    iprop(ctx m K ∗ crS c t ∗ owesX c [] ∗ atS c t 0 ∗ (iprop(atS c t (0 + 1) ∗ owesX c []) -∗ Q ⟨⟩))
      ⊢ WP c (waitP b sS M M' hM hM') Q := by
  subst hS
  unfold waitP owesX crS
  simp only [Prog.lift]
  iintro ⟨#Hctx, HC, ⟨%W, HO⟩, Hat, Hk⟩
  iapply (Rounds.wp_wait_rest_token 𝒱₀ ER (Rd m) (c : Thread nD τ) none (κ := K (c, some (t, false)))
      (wpE_waitDma2_eq 𝒱₀ (c : Thread nD τ) none Set.univ) (Set.mem_univ _) () (O := owedL c []) (W := W) (R := 0) (m := 0) (T := ∅)
      (by rw [Nat.zero_add, expect_S])) $$ [HC HO Hat]
  · isplitr; · iapply (ctx_S m K c t); iexact Hctx
    isplitl [HC]; · iexact HC
    isplitl [HO]; · iexact HO
    isplitr; · rw [show owedL c [] = 0 from rfl, MayWait_zero]; iempintro
    iexact Hat
  iintro ⟨HO, Hat, -, -⟩
  iapply WP_ret
  iapply Hk
  isplitl [Hat]; · iexact Hat
  iexists _; iexact HO

/-- A device's barrier signal to neighbour `k`, which hands over the rows that neighbour writes. -/
theorem wp_sigP {Q : PUnit → SP F} (k : Fin 3) (p : Dev nD) (hp : p = nb k c) (O₀ O : CellTallies nD τ sig Unit) (hO : O₀ = O + tallyAt (bar p) () 1) :
    iprop(ctx m K ∗ (∃ W, owes (c : Thread nD τ) O₀ W) ∗ dutyTok ER (bar p) 0 k ∗ (bigSep (kinds k) fun t => anyR c t)
        ∗ (iprop(∃ W, owes (c : Thread nD τ) O W) -∗ Q ⟨⟩))
      ⊢ WP c (semSignalWord p (sig.barrier 0 rfl) 1#32) Q := by
  subst hp
  simp only [semSignalWord, Prog.lift]
  iintro ⟨#Hctx, ⟨%W, HO⟩, Ht, Hpay, Hk⟩
  iapply (Rounds.wp_signal 𝒱₀ ER (Rd m) (c : Thread nD τ) none (dst := (nb k c : Thread nD τ)) (κ := K (nb k c, none))
      (d := k) (by rw [duties_bar]; exact Finset.mem_univ _) ((amount_bar m (nb k c) k).trans (by decide)) () O hO (W := W))
    $$ [HO Ht Hpay]
  · isplitr; · iapply (ctx_bar m K (nb k c)); iexact Hctx
    isplitl [HO]; · iexact HO
    isplitl [Ht]; · iexact Ht
    isplitl [Hpay]
    · rw [payload_bar]; unfold barPay; rw [nb_nb]; iexact Hpay
    iapply (reached_bar m K (nb k c)); iexact Hctx
  iintro HO
  iapply WP_ret
  iapply Hk
  iexists W; iexact HO

/-- The wait for the three signals, below every transfer owed. -/
theorem wp_barP {Q : PUnit → SP F} :
    iprop(ctx m K ∗ cred (tallyAt (bar c) () 3) ∗ owesX c l ∗ atPos ER (bar c) 0 ∅ 0
        ∗ (iprop((bigSep Finset.univ fun k => barPay c k) ∗ atPos ER (bar c) (0 + 1) ∅ 0 ∗ owesX c l) -∗ Q ⟨⟩))
      ⊢ WP c (semWaitWord (sig.barrier 0 rfl) 3#32) Q := by
  unfold owesX
  simp only [semWaitWord, Prog.lift]
  iintro ⟨#Hctx, HC, ⟨%W, HO⟩, Hat, Hk⟩
  iapply (Rounds.wp_wait_rest_token 𝒱₀ ER (Rd m) (c : Thread nD τ) none (κ := K (c, none))
      (wpE_semWait_eq 𝒱₀ (c : Thread nD τ) none Set.univ) (Set.mem_univ _) () (O := owedL c l) (W := W) (R := 0) (m := 0) (T := ∅)
      (by rw [expect_bar]; decide)) $$ [HC HO Hat]
  · isplitr; · iapply (ctx_bar m K c); iexact Hctx
    isplitl [HC]; · iexact HC
    isplitl [HO]; · iexact HO
    isplitr
    · iapply (ctx_mayWait m K c (.reg barS) 1 (lv_bar c) l (fun p _ => lt_of_lt_of_le (by decide) (lvl_pos p))); iexact Hctx
    iexact Hat
  iintro ⟨HO, Hat, -, Hpay⟩
  ihave Hp := (Entails.of_eq (rest_bar m c)) $$ Hpay
  iapply WP_ret
  iapply Hk
  isplitl [Hp]; · iexact Hp
  isplitl [Hat]; · iexact Hat
  iexists _; iexact HO

end Remote

end Cert.KernelIdeal.RS

end
-- ==== Proof.Steps.lean ====
/- The second half of the body: received chunks awaited, forwarded and added; and the transfers drained. -/
module

public import proofs.«01_k».proof.Proof.Rules
public import Idealize.ShloMosaic.Lib.Pipeline.BigSepL
public import Idealize.ShloMosaic.Lib.StableHlo.CollectiveRules

@[expose] public section

set_option maxRecDepth 10000

noncomputable section

namespace Cert.KernelIdeal.RS

open Idealize.ShloMosaic Idealize.ShloMosaic.TcCoe Idealize.ShloMosaic.Rounds Idealize.ShloMosaic.Transfers
open Idealize.SL Idealize.SL.RA Idealize.SL.BI Idealize.SL.ProofMode
open scoped Idealize.SL.BI
open Idealize.SL.BI.BIBase Idealize.SL.BI.Laws Idealize.SL.Sem
open Idealize.SL.BI (sProp)
open Cert.KernelIdeal.Gen

variable {F : FTy → Type} [FloatOps F]

local notation "𝕄" => MT nD τ sig Unit (Elt F) ℕ UU ℕ

attribute [local irreducible] Cell.sem cs cfl cst cp

/-- A memref read at known contents, at some share. -/
def shr (c : Dev nD) {sp : Space} {s : Shape} {e : EltTy} (M : Memref sig .tc sp s e) (V : s.Idx → Elt F e) : SP F :=
  iprop(∃ q : PosShare TreeShare, owns (c : Thread nD τ) M q V)

theorem shr_split (c : Dev nD) {sp : Space} {s : Shape} {e : EltTy} (M : Memref sig .tc sp s e) (V : s.Idx → Elt F e) :
    shr c M V ⊢ iprop(shr c M V ∗ shr c M V) := by
  unfold shr
  iintro ⟨%q, H⟩
  ihave H2 := ((owns_share (c : Thread nD τ) M (PosShare.mem_left_op_right q) V).1) $$ H
  icases H2 with ⟨H1, H2⟩
  isplitl [H1]
  · iexists q.left; iexact H1
  · iexists q.right; iexact H2

theorem any_intro (c : Dev nD) {sp : Space} {s : Shape} {e : EltTy} (M : Memref sig .tc sp s e) (V : s.Idx → Elt F e) :
    (owns (c : Thread nD τ) M fullShare V : SP F) ⊢ anyP c M := by
  unfold anyP; iintro H; iexists V; iexact H
theorem shr_intro (c : Dev nD) {sp : Space} {s : Shape} {e : EltTy} (M : Memref sig .tc sp s e) (q : PosShare TreeShare) (V : s.Idx → Elt F e) :
    (owns (c : Thread nD τ) M q V : SP F) ⊢ shr c M V := by
  unfold shr; iintro H; iexists q; iexact H

variable (m : (ℓ : Loc nD τ sig) → Buf (Elt F) ℓ) (K : Dev nD × KC → ℕ)

/-- The buffers and semaphores of an addition, idle. -/
def cmn (c : Dev nD) : SP F := iprop(anyP c AV ∗ anyP c RV ∗ anyP c OV ∗ sv c (cp 0) ∗ sv c (cp 1) ∗ sv c (cp 2))

theorem lv_cp (c : Dev nD) (i : Fin 3) : lv ((c : Thread nD τ), .dma (cp i)) () = 0 := by
  have h : ∀ (i : Fin 3) (p : Task × Bool), cp i ≠ cs p := by
    unfold cp cs Cell.sem; decide +kernel
  unfold lv dec
  rw [if_neg (dma_ne_bar _), dif_neg]
  rintro ⟨p, hp⟩; injection hp with hp; exact h i p hp

/-- Adding one chunk: the argument's rows at `V` and the received at `W` give the result's rows. -/
theorem wp_addP {Q : PUnit → SP F} (c : Dev nD) (l : List Task) (b : Blk) (V : FVec F S512x1024 .f32) (W : FVec F S512x1024 .bf16) :
    iprop(ctx m K ∗ shr c (b.of X) V ∗ shr c (b.of RECV) W ∗ anyP c (b.of OUT) ∗ cmn c ∗ owesX c l
        ∗ (iprop(owns (c : Thread nD τ) (b.of OUT) fullShare (k0_pay14 V W) ∗ cmn c ∗ owesX c l) -∗ Q ⟨⟩))
      ⊢ WP c (addP b) Q := by
  unfold addP cmn
  conv_lhs => unfold shr
  simp only [Prog.lift, Prog.bind_op, Prog.bind_ret]
  iintro ⟨#Hctx, ⟨%q₁, HX⟩, ⟨%q₂, HR⟩, HOUT, ⟨HA, HRV, HOV, Hv0, Hv1, Hv2⟩, HO, Hk⟩
  ihave #Hlev := (ctx_lev m K) $$ Hctx
  iapply (wp_here c q₁ V (View.dmaCredit_pos _ (by decide))) $$ [HX HA Hv0]
  · isplitl [HX]; · iexact HX
    isplitl [HA] <;> iassumption
  iintro HF0
  iapply (wp_here c q₂ W (View.dmaCredit_pos _ (by decide))) $$ [HR HRV Hv1]
  · isplitl [HR]; · iexact HR
    isplitl [HRV] <;> iassumption
  iintro HF1
  iapply (wp_waitFl c rfl l (lv_cp c 0)) $$ [HF0 HO]
  · isplitl [HF0]; · iexact HF0
    isplitl [HO]; · iexact HO
    iexact Hlev
  iintro ⟨⟨HA, -⟩, Hv0, HO⟩
  iapply (wp_waitFl c rfl l (lv_cp c 1)) $$ [HF1 HO]
  · isplitl [HF1]; · iexact HF1
    isplitl [HO]; · iexact HO
    iexact Hlev
  iintro ⟨⟨HRV, -⟩, Hv1, HO⟩
  iapply (wp_loadW c AV V) $$ HA
  iintro HA
  iapply (wp_loadW c RV W) $$ HRV
  iintro HRV
  iapply (wp_loadOV c) $$ HOV
  iintro %_ HOV
  iapply (wp_storeOV c) $$ HOV
  iintro HOV
  iapply (wp_here c fullShare (k0_pay14 V W) (View.dmaCredit_pos _ (by decide))) $$ [HOV HOUT Hv2]
  · isplitl [HOV]; · iexact HOV
    isplitl [HOUT] <;> iassumption
  iintro HF2
  iapply (wp_waitFl c rfl l (lv_cp c 2)) $$ [HF2 HO]
  · isplitl [HF2]; · iexact HF2
    isplitl [HO]; · iexact HO
    iexact Hlev
  iintro ⟨⟨HOUT, HOV⟩, Hv2, HO⟩
  iapply WP_ret
  iapply Hk
  isplitl [HOUT]; · iexact HOUT
  isplitr [HO]; swap; · iexact HO
  isplitl [HA]; · iapply (any_intro c AV V); iexact HA
  isplitl [HRV]; · iapply (any_intro c RV W); iexact HRV
  isplitl [HOV]; · iapply (any_intro c OV _); iexact HOV
  isplitl [Hv0]; · iexact Hv0
  isplitl [Hv1] <;> iassumption

/-- Forwarding one received chunk along a list. -/
theorem wp_fwdP {Q : PUnit → SP F} (c : Dev nD) (l : List Task) (b : Blk) (o : Dev nD) (fs : List Fwd)
    (hfs : ∀ f ∈ fs, b = f.task.ch.blk (f.task.dst c) ∧ o = f.task.org (f.task.dst c)) :
    iprop(ctx m K ∗ shr c (b.of RECV) (xbV m o b) ∗ bigSepL (fs.map Fwd.task) (sendRes c) ∗ owesX c (fs.map Fwd.task ++ l)
        ∗ (iprop(shr c (b.of RECV) (xbV m o b) ∗ bigSepL (fs.map Fwd.task) (crS c) ∗ owesX c l) -∗ Q ⟨⟩))
      ⊢ WP c (fwdP c b fs) Q := by
  induction fs generalizing Q with
  | nil =>
    unfold fwdP
    iintro ⟨-, HR, -, HO, Hk⟩
    iapply WP_ret
    iapply Hk
    isplitl [HR]; · iexact HR
    isplitr; · iempintro
    iexact HO
  | cons f fs ih =>
    unfold fwdP
    rw [WP_bind, List.map_cons, bigSepL_cons', bigSepL_cons', List.cons_append]
    iintro ⟨#Hctx, HR, ⟨Ht, Hts⟩, HO, Hk⟩
    ihave HR2 := (shr_split c (b.of RECV) (xbV m o b)) $$ HR
    icases HR2 with ⟨HR1, HR⟩
    unfold shr at *
    icases HR1 with ⟨%q, HR1⟩
    iapply (wp_sendP m K c f.task (fs.map Fwd.task ++ l) q b o (f.dev c) (f.dev_eq c) ((hfs f List.mem_cons_self).1.trans (by rw [f.dev_eq]))
      ((hfs f List.mem_cons_self).2.trans (by rw [f.dev_eq])) RECV wRECV _ _ (by rw [f.snd_eq]) (by rw [f.rcv_eq]))
    isplitr; · iexact Hctx
    isplitl [HR1]; · iexact HR1
    isplitl [Ht]; · iexact Ht
    isplitl [HO]; · iexact HO
    iintro ⟨Hc, HO⟩
    iapply (ih (Q := Q) fun f' hf' => hfs f' (List.mem_cons_of_mem _ hf'))
    isplitr; · iexact Hctx
    isplitl [HR]; · iexact HR
    isplitl [Hts]; · iexact Hts
    isplitl [HO]; · iexact HO
    iintro ⟨HR, Hcs, HO⟩
    iapply Hk
    isplitl [HR]; · iexact HR
    isplitr [HO]; swap; · iexact HO
    isplitl [Hc] <;> iassumption

/-- What handling chunk `t` needs, and leaves: the chunk's rows of the result. -/
def taskRes (c : Dev nD) (t : Task) : SP F :=
  iprop(crR c t ∗ atR c t 0 ∗ shr c ((t.ch.blk c).of X) (xV m c (t.ch.blk c)) ∗ anyP c ((t.ch.blk c).of OUT))
def taskDone (c : Dev nD) (t : Task) : SP F :=
  iprop(owns (c : Thread nD τ) ((t.ch.blk c).of OUT) fullShare (outV m c t) ∗ atR c t (0 + 1))

theorem wp_taskP {Q : PUnit → SP F} (c : Dev nD) (t : Task) (l : List Task)
    (h : ∀ p ∈ t.fwds.map Fwd.task ++ l, t.lvl < p.lvl) :
    iprop(ctx m K ∗ taskRes m c t ∗ cmn c ∗ bigSepL (t.fwds.map Fwd.task) (sendRes c) ∗ owesX c (t.fwds.map Fwd.task ++ l)
        ∗ (iprop(taskDone m c t ∗ cmn c ∗ bigSepL (t.fwds.map Fwd.task) (crS c) ∗ owesX c l) -∗ Q ⟨⟩))
      ⊢ WP c (taskP c t) Q := by
  unfold taskP taskRes taskDone
  rw [WP_bind]
  iintro ⟨#Hctx, ⟨HC, Hat, HX, HOUT⟩, Hcmn, Hts, HO, Hk⟩
  iapply (wp_waitR m K c t _ h)
  isplitr; · iexact Hctx
  isplitl [HC]; · iexact HC
  isplitl [HO]; · iexact HO
  isplitl [Hat]; · iexact Hat
  iintro ⟨HR, Hat, HO⟩
  rw [WP_bind]
  unfold gotR
  ihave HR := (shr_intro c _ _ _) $$ HR
  iapply (wp_fwdP m K c l (t.ch.blk c) (t.org c) t.fwds fun f hf =>
    ⟨by rw [← sch_blk, fwds_ch t f hf], (fwds_org t c f hf).symm⟩)
  isplitr; · iexact Hctx
  isplitl [HR]; · iexact HR
  isplitl [Hts]; · iexact Hts
  isplitl [HO]; · iexact HO
  iintro ⟨HR, Hcs, HO⟩
  iapply (wp_addP m K c l (t.ch.blk c) _ _)
  isplitr; · iexact Hctx
  isplitl [HX]; · iexact HX
  isplitl [HR]; · iexact HR
  isplitl [HOUT]; · iexact HOUT
  isplitl [Hcmn]; · iexact Hcmn
  isplitl [HO]; · iexact HO
  iintro ⟨HOUT, Hcmn, HO⟩
  iapply Hk
  isplitl [HOUT Hat]
  · unfold outV; isplitl [HOUT] <;> iassumption
  isplitl [Hcmn]; · iexact Hcmn
  isplitl [Hcs] <;> iassumption

/-- All the received chunks, in order. -/
theorem wp_tasksP {Q : PUnit → SP F} (c : Dev nD) (l : List Task) (h : Below l) :
    iprop(ctx m K ∗ bigSepL l (taskRes m c) ∗ cmn c ∗ bigSepL (pays l) (sendRes c) ∗ owesX c (pays l)
        ∗ (iprop(bigSepL l (taskDone m c) ∗ cmn c ∗ bigSepL (pays l) (crS c) ∗ owesX c []) -∗ Q ⟨⟩))
      ⊢ WP c (tasksP c l) Q := by
  induction l generalizing Q with
  | nil =>
    unfold tasksP
    iintro ⟨-, -, Hcmn, -, HO, Hk⟩
    iapply WP_ret
    iapply Hk
    isplitr; · iempintro
    isplitl [Hcmn]; · iexact Hcmn
    isplitr; · iempintro
    iexact HO
  | cons t l ih =>
    unfold tasksP
    rw [WP_bind, bigSepL_cons', bigSepL_cons', show pays (t :: l) = t.fwds.map Fwd.task ++ pays l from rfl, bigSepL_append, bigSepL_append]
    iintro ⟨#Hctx, ⟨Hr, Hrs⟩, Hcmn, ⟨Ht, Hts⟩, HO, Hk⟩
    iapply (wp_taskP m K c t (pays l) h.1)
    isplitr; · iexact Hctx
    isplitl [Hr]; · iexact Hr
    isplitl [Hcmn]; · iexact Hcmn
    isplitl [Ht]; · iexact Ht
    isplitl [HO]; · iexact HO
    iintro ⟨Hd, Hcmn, Hc, HO⟩
    iapply (ih (Q := Q) h.2)
    isplitr; · iexact Hctx
    isplitl [Hrs]; · iexact Hrs
    isplitl [Hcmn]; · iexact Hcmn
    isplitl [Hts]; · iexact Hts
    isplitl [HO]; · iexact HO
    iintro ⟨Hds, Hcmn, Hcs, HO⟩
    iapply Hk
    isplitl [Hd Hds]; · isplitl [Hd] <;> iassumption
    isplitl [Hcmn]; · iexact Hcmn
    isplitr [HO]; swap; · iexact HO
    isplitl [Hc] <;> iassumption

/-! ## Draining -/

/-- The sender's end of a transfer, before and after the wait for it. -/
def sent (c : Dev nD) (t : Task) : SP F := iprop(crS c t ∗ atS c t 0)

theorem wp_drainFP {Q : PUnit → SP F} (c : Dev nD) (b : Blk) (fs : List Fwd) :
    iprop(ctx m K ∗ bigSepL (fs.map Fwd.task) (sent c) ∗ owesX c []
        ∗ (iprop(bigSepL (fs.map Fwd.task) (fun t => atS c t (0 + 1)) ∗ owesX c []) -∗ Q ⟨⟩))
      ⊢ WP c (drainFP b fs) Q := by
  induction fs generalizing Q with
  | nil =>
    unfold drainFP
    iintro ⟨-, -, HO, Hk⟩
    iapply WP_ret
    iapply Hk
    isplitr; · iempintro
    iexact HO
  | cons f fs ih =>
    unfold drainFP
    rw [WP_bind, List.map_cons, bigSepL_cons', bigSepL_cons']
    unfold sent at *
    iintro ⟨#Hctx, ⟨⟨HC, Hat⟩, Hrs⟩, HO, Hk⟩
    iapply (wp_waitS m K c f.task b RECV RECV wRECV wRECV _ (by rw [f.snd_eq]))
    isplitr; · iexact Hctx
    isplitl [HC]; · iexact HC
    isplitl [HO]; · iexact HO
    isplitl [Hat]; · iexact Hat
    iintro ⟨Hat, HO⟩
    iapply (ih (Q := Q))
    isplitr; · iexact Hctx
    isplitl [Hrs]; · iexact Hrs
    isplitl [HO]; · iexact HO
    iintro ⟨Hats, HO⟩
    iapply Hk
    isplitr [HO]; swap; · iexact HO
    isplitl [Hat] <;> iassumption

theorem wp_drainTP {Q : PUnit → SP F} (c : Dev nD) (l : List Task) :
    iprop(ctx m K ∗ bigSepL (pays l) (sent c) ∗ owesX c []
        ∗ (iprop(bigSepL (pays l) (fun t => atS c t (0 + 1)) ∗ owesX c []) -∗ Q ⟨⟩))
      ⊢ WP c (drainTP c l) Q := by
  induction l generalizing Q with
  | nil =>
    unfold drainTP
    iintro ⟨-, -, HO, Hk⟩
    iapply WP_ret
    iapply Hk
    isplitr; · iempintro
    iexact HO
  | cons t l ih =>
    unfold drainTP
    rw [WP_bind, show pays (t :: l) = t.fwds.map Fwd.task ++ pays l from rfl, bigSepL_append, bigSepL_append]
    iintro ⟨#Hctx, ⟨Hr, Hrs⟩, HO, Hk⟩
    iapply (wp_drainFP m K c (t.ch.blk c) t.fwds)
    isplitr; · iexact Hctx
    isplitl [Hr]; · iexact Hr
    isplitl [HO]; · iexact HO
    iintro ⟨Hat, HO⟩
    iapply (ih (Q := Q))
    isplitr; · iexact Hctx
    isplitl [Hrs]; · iexact Hrs
    isplitl [HO]; · iexact HO
    iintro ⟨Hats, HO⟩
    iapply Hk
    isplitr [HO]; swap; · iexact HO
    isplitl [Hat] <;> iassumption

theorem wp_drainXP {Q : PUnit → SP F} (c : Dev nD) (n k : ℕ) :
    iprop(ctx m K ∗ bigSepL (xs n k) (sent c) ∗ owesX c []
        ∗ (iprop(bigSepL (xs n k) (fun t => atS c t (0 + 1)) ∗ owesX c []) -∗ Q ⟨⟩))
      ⊢ WP c (drainXP c n k) Q := by
  induction n generalizing Q k with
  | zero =>
    unfold drainXP
    iintro ⟨-, -, HO, Hk⟩
    iapply WP_ret
    iapply Hk
    isplitr; · iempintro
    iexact HO
  | succ n ih =>
    unfold drainXP xs
    rw [WP_bind, bigSepL_cons', bigSepL_cons']
    conv_lhs => unfold sent
    iintro ⟨#Hctx, ⟨⟨HC, Hat⟩, Hrs⟩, HO, Hk⟩
    iapply (wp_waitS m K c (xt k) _ RECV XBB wRECV wXBB _ rfl)
    isplitr; · iexact Hctx
    isplitl [HC]; · iexact HC
    isplitl [HO]; · iexact HO
    isplitl [Hat]; · iexact Hat
    iintro ⟨Hat, HO⟩
    iapply (ih (Q := Q) (k + 1))
    isplitr; · iexact Hctx
    isplitl [Hrs]; · iexact Hrs
    isplitl [HO]; · iexact HO
    iintro ⟨Hats, HO⟩
    iapply Hk
    isplitr [HO]; swap; · iexact HO
    isplitl [Hat] <;> iassumption

end Cert.KernelIdeal.RS

end
-- ==== Proof.Loop.lean ====
/- The first half of the body: the argument's chunks loaded, converted, stored and sent to the x neighbour. -/
module

public import proofs.«01_k».proof.Proof.Steps

@[expose] public section

set_option maxRecDepth 10000

noncomputable section

namespace Cert.KernelIdeal.RS

open Idealize.ShloMosaic Idealize.ShloMosaic.TcCoe Idealize.ShloMosaic.Rounds Idealize.ShloMosaic.Transfers
open Idealize.SL Idealize.SL.RA Idealize.SL.BI Idealize.SL.ProofMode
open scoped Idealize.SL.BI
open Idealize.SL.BI.BIBase Idealize.SL.BI.Laws Idealize.SL.Sem
open Idealize.SL.BI (sProp)
open Cert.KernelIdeal.Gen

variable {F : FTy → Type} [FloatOps F]

local notation "𝕄" => MT nD τ sig Unit (Elt F) ℕ UU ℕ

theorem lv_ls (c : Dev nD) (i : Fin 3 ⊕ Fin 2 ⊕ Fin 3) : lv ((c : Thread nD τ), .dma (ls i)) () = 0 := by
  have h : ∀ (i : Fin 3 ⊕ Fin 2 ⊕ Fin 3) (p : Task × Bool), ls i ≠ cs p := by decide +kernel
  unfold lv dec
  rw [if_neg (dma_ne_bar _), dif_neg]
  rintro ⟨p, hp⟩; injection hp with hp; exact h i p hp

/-- What is sent along x is the sender's own data. -/
theorem xt_org (k : ℕ) (c : Dev nD) : (xt k).org ((xt k).dst c) = c := by
  have h : ∀ (i : Fin 12) (c : Dev nD), (Task.x i).org ((Task.x i).dst c) = c := by decide +kernel
  exact h _ c

attribute [local irreducible] Cell.sem cs cfl cst cp

variable (m : (ℓ : Loc nD τ sig) → Buf (Elt F) ℓ) (K : Dev nD × KC → ℕ) (c : Dev nD)

/-- The argument's rows of chunk `t`, to be loaded; the bf16 copy's rows, to be written. -/
def xP (t : Task) : SP F := shr c ((t.ch.blk c).of X) (xV m c (t.ch.blk c))
def bP (t : Task) : SP F := anyP c ((t.ch.blk c).of XBB)

/-- Load buffer `i` idle; the `k`th load in flight. -/
def idF (i : Fin 3) : SP F := iprop(sv c (cfl i) ∗ anyP c (FVs i))
def ldF (k : ℕ) : SP F :=
  Fl c (cfl (s3 k)) (FVs (s3 k)).view.dmaCredit
    iprop(owns (c : Thread nD τ) (FVs (s3 k)) fullShare (xV m c ((dl k).blk c)) ∗ shr c (((dl k).blk c).of X) (xV m c ((dl k).blk c)))

/-- Store buffer `i` idle; the `k`th store in flight. -/
def idB (i : Fin 2) : SP F := iprop(sv c (cst i) ∗ anyP c (BVs i))
def stF (k : ℕ) : SP F :=
  Fl c (cst (s2 k)) (((dl k).blk c).of XBB).view.dmaCredit
    iprop(owns (c : Thread nD τ) (((dl k).blk c).of XBB) fullShare (xbV m c ((dl k).blk c)) ∗ anyP c (BVs (s2 k)))

theorem wp_ldP {Q : PUnit → SP F} (k : ℕ) (hk : k < 12) :
    iprop(xP m c (xt k) ∗ idF c (s3 k) ∗ (ldF m c k -∗ Q ⟨⟩)) ⊢ WP c (ldP c k) Q := by
  unfold ldP xP idF ldF
  rw [xt_ch k hk]
  conv_lhs => arg 1; unfold shr
  simp only [Prog.lift]
  iintro ⟨⟨%q, HX⟩, ⟨Hv, HF⟩, Hk⟩
  iapply (wp_here c q _ (View.dmaCredit_pos _ (by decide))) $$ [HX HF Hv]
  · isplitl [HX]; · iexact HX
    isplitl [HF] <;> iassumption
  iintro HF
  iapply WP_ret
  iapply Hk
  iapply (Flight_mono EC (c : Thread nD τ) ?_) $$ HF
  iintro ⟨H1, H2⟩
  isplitl [H1]; · iexact H1
  iapply shr_intro; iexact H2

theorem wp_cvP {Q : PUnit → SP F} (k : ℕ) (hk : k < 12) (l : List Task) :
    iprop(ctx m K ∗ ldF m c k ∗ idB c (s2 k) ∗ bP c (xt k) ∗ owesX c l
        ∗ (iprop(idF c (s3 k) ∗ stF m c k ∗ owesX c l) -∗ Q ⟨⟩)) ⊢ WP c (cvP c k) Q := by
  unfold cvP idB bP ldF stF idF
  rw [xt_ch k hk]
  simp only [Prog.lift, Prog.bind_op, Prog.bind_ret]
  iintro ⟨#Hctx, HF, ⟨HvB, HB⟩, HXB, HO, Hk⟩
  ihave #Hlev := (ctx_lev m K) $$ Hctx
  iapply (wp_waitFl c rfl l (lv_ls c (.inl (s3 k)))) $$ [HF HO]
  · isplitl [HF]; · iexact HF
    isplitl [HO]; · iexact HO
    iexact Hlev
  iintro ⟨⟨HF, -⟩, HvF, HO⟩
  iapply (wp_loadFV c (s3 k) _) $$ HF
  iintro %v %hv HF
  iapply (wp_loadBV c (s2 k)) $$ HB
  iintro %_ HB
  iapply (wp_storeBV c (s2 k)) $$ HB
  iintro HB
  rw [show shapeCast S512x1024 (k0_pay1 v) shapeCasts_S1x512x1024_S512x1024 = xbV m c ((dl k).blk c) from by
    unfold k0_pay1 xbV
    rw [shapeCast_shapeCast, hv]]
  iapply (wp_here c fullShare _ (View.dmaCredit_pos _ (by decide))) $$ [HB HXB HvB]
  · isplitl [HB]; · iexact HB
    isplitl [HXB] <;> iassumption
  iintro HS
  iapply WP_ret
  iapply Hk
  isplitl [HvF HF]
  · isplitl [HvF]; · iexact HvF
    iapply (any_intro c (FVs (s3 k)) _); iexact HF
  isplitl [HS]
  · iapply (Flight_mono EC (c : Thread nD τ) ?_) $$ HS
    iintro ⟨H1, H2⟩
    isplitl [H1]; · iexact H1
    iapply (any_intro c (BVs (s2 k)) _); iexact H2
  iexact HO

theorem wp_xsP {Q : PUnit → SP F} (k : ℕ) (hk : k < 12) (l : List Task) :
    iprop(ctx m K ∗ stF m c k ∗ sendRes c (xt k) ∗ owesX c (xt k :: l)
        ∗ (iprop(idB c (s2 k) ∗ crS c (xt k) ∗ owesX c l) -∗ Q ⟨⟩)) ⊢ WP c (xsP c k) Q := by
  unfold xsP stF idB
  rw [WP_bind]
  simp only [Prog.lift]
  iintro ⟨#Hctx, HF, Ht, HO, Hk⟩
  ihave #Hlev := (ctx_lev m K) $$ Hctx
  iapply (wp_waitFl c rfl (xt k :: l) (lv_ls c (.inr (.inl (s2 k))))) $$ [HF HO]
  · isplitl [HF]; · iexact HF
    isplitl [HO]; · iexact HO
    iexact Hlev
  iintro ⟨⟨HXB, HB⟩, HvB, HO⟩
  iapply WP_ret
  iapply (wp_sendP m K c (xt k) l fullShare ((dl k).blk c) c (xp c) rfl (by rw [← xt_sch k hk]; exact sch_blk (xt k) c) (xt_org k c).symm XBB wXBB _ _ rfl rfl)
  isplitr; · iexact Hctx
  isplitl [HXB]; · iexact HXB
  isplitl [Ht]; · iexact Ht
  isplitl [HO]; · iexact HO
  iintro ⟨Hc, HO⟩
  iapply Hk
  isplitl [HvB HB]; · isplitl [HvB] <;> iassumption
  isplitl [Hc] <;> iassumption

theorem s3_next (k : ℕ) : s3 (k + 3) = s3 k := Fin.ext (by show (k + 3) % 3 = k % 3; omega)
theorem s2_next (k : ℕ) : s2 (k + 2) = s2 k := Fin.ext (by show (k + 2) % 2 = k % 2; omega)

/-- The loop at its `k`th step: two stores and two loads in flight. -/
def loopAt (k : ℕ) : SP F := iprop(stF m c k ∗ stF m c (k + 1) ∗ ldF m c (k + 2) ∗ ldF m c (k + 3) ∗ idF c (s3 (k + 1)))

theorem wp_loopP {Q : PUnit → SP F} (l : List Task) (j k : ℕ) (h : j + k = 8) :
    iprop(ctx m K ∗ loopAt m c k ∗ bigSepL (xs j (k + 4)) (xP m c) ∗ bigSepL (xs (j + 2) (k + 2)) (bP c)
        ∗ bigSepL (xs (j + 2) k) (sendRes c) ∗ owesX c (xs (j + 2) k ++ l)
        ∗ (iprop(stF m c 10 ∗ stF m c 11 ∗ idF c 0 ∗ idF c 1 ∗ idF c 2 ∗ bigSepL (xs (j + 2) k) (crS c) ∗ owesX c l) -∗ Q ⟨⟩))
      ⊢ WP c (loopP c (j + 2) k) Q := by
  induction j generalizing Q k with
  | zero =>
    obtain rfl : k = 8 := by omega
    unfold loopP loopP loopP loopAt
    simp only [xs, bigSepL_cons', bigSepL_nil, List.cons_append, List.nil_append]
    rw [WP_bind, if_neg (by decide), if_neg (by decide)]
    iintro ⟨#Hctx, ⟨HS8, HS9, HL10, HL11, HI9⟩, -, ⟨HB10, HB11, -⟩, ⟨Ht8, Ht9, -⟩, HO, Hk⟩
    iapply (wp_xsP m K c 8 (by decide))
    isplitr; · iexact Hctx
    isplitl [HS8]; · iexact HS8
    isplitl [Ht8]; · iexact Ht8
    isplitl [HO]; · iexact HO
    iintro ⟨HI, Hc8, HO⟩
    rw [WP_bind]
    iapply (wp_cvP m K c 10 (by decide))
    isplitr; · iexact Hctx
    isplitl [HL10]; · iexact HL10
    isplitl [HI]; · iexact HI
    isplitl [HB10]; · iexact HB10
    isplitl [HO]; · iexact HO
    iintro ⟨HI10, HS10, HO⟩
    rw [WP_bind]
    iapply (wp_xsP m K c 9 (by decide))
    isplitr; · iexact Hctx
    isplitl [HS9]; · iexact HS9
    isplitl [Ht9]; · iexact Ht9
    isplitl [HO]; · iexact HO
    iintro ⟨HI, Hc9, HO⟩
    rw [WP_bind]
    iapply (wp_cvP m K c 11 (by decide))
    isplitr; · iexact Hctx
    isplitl [HL11]; · iexact HL11
    isplitl [HI]; · iexact HI
    isplitl [HB11]; · iexact HB11
    isplitl [HO]; · iexact HO
    iintro ⟨HI11, HS11, HO⟩
    iapply WP_ret
    iapply Hk
    isplitl [HS10]; · iexact HS10
    isplitl [HS11]; · iexact HS11
    isplitl [HI9]; · iexact HI9
    isplitl [HI10]; · iexact HI10
    isplitl [HI11]; · iexact HI11
    isplitr [HO]; swap; · iexact HO
    isplitl [Hc8]; · iexact Hc8
    isplitl [Hc9]; · iexact Hc9
    iempintro
  | succ j ih =>
    rw [show j + 1 + 2 = (j + 2) + 1 from rfl]
    unfold loopP xs
    unfold loopAt
    rw [WP_bind, if_pos (by omega), bigSepL_cons', bigSepL_cons', bigSepL_cons', bigSepL_cons', List.cons_append]
    iintro ⟨#Hctx, ⟨HS0, HS1, HL2, HL3, HI⟩, ⟨HX, HXs⟩, ⟨HB, HBs⟩, ⟨Ht, Hts⟩, HO, Hk⟩
    iapply (wp_xsP m K c k (by omega))
    isplitr; · iexact Hctx
    isplitl [HS0]; · iexact HS0
    isplitl [Ht]; · iexact Ht
    isplitl [HO]; · iexact HO
    iintro ⟨HIB, Hc, HO⟩
    rw [WP_bind]
    iapply (wp_ldP m c (k + 4) (by omega))
    isplitl [HX]; · iexact HX
    isplitl [HI]; · rw [s3_next (k + 1)]; iexact HI
    iintro HL4
    rw [WP_bind]
    iapply (wp_cvP m K c (k + 2) (by omega))
    isplitr; · iexact Hctx
    isplitl [HL2]; · iexact HL2
    isplitl [HIB]; · rw [s2_next k]; iexact HIB
    isplitl [HB]; · iexact HB
    isplitl [HO]; · iexact HO
    iintro ⟨HI, HS2, HO⟩
    iapply (ih (Q := Q) (k + 1) (by omega))
    isplitr; · iexact Hctx
    isplitl [HS1 HS2 HL3 HL4 HI]
    · unfold loopAt
      isplitl [HS1]; · iexact HS1
      isplitl [HS2]; · iexact HS2
      isplitl [HL3]; · iexact HL3
      isplitl [HL4]; · iexact HL4
      iexact HI
    isplitl [HXs]; · iexact HXs
    isplitl [HBs]; · iexact HBs
    isplitl [Hts]; · iexact Hts
    isplitl [HO]; · iexact HO
    iintro ⟨HS10, HS11, HI0, HI1, HI2, Hcs, HO⟩
    iapply Hk
    isplitl [HS10]; · iexact HS10
    isplitl [HS11]; · iexact HS11
    isplitl [HI0]; · iexact HI0
    isplitl [HI1]; · iexact HI1
    isplitl [HI2]; · iexact HI2
    isplitr [HO]; swap; · iexact HO
    isplitl [Hc] <;> iassumption

end Cert.KernelIdeal.RS

end
-- ==== Proof.Body.lean ====
/- The whole body on one device: from its shares of the buffers and of the protocol to its rows of the result. -/
module

public import proofs.«01_k».proof.Proof.Loop
public import Idealize.ShloMosaic.Lib.Pipeline.Launch

@[expose] public section

set_option maxRecDepth 10000

noncomputable section

namespace Cert.KernelIdeal.RS

open Idealize.ShloMosaic Idealize.ShloMosaic.TcCoe Idealize.ShloMosaic.Rounds Idealize.ShloMosaic.Transfers
open Idealize.SL Idealize.SL.RA Idealize.SL.BI Idealize.SL.ProofMode
open scoped Idealize.SL.BI
open Idealize.SL.BI.BIBase Idealize.SL.BI.Laws Idealize.SL.Sem
open Idealize.SL.BI (sProp)
open Cert.KernelIdeal.Gen

variable {F : FTy → Type} [FloatOps F]

local notation "𝕄" => MT nD τ sig Unit (Elt F) ℕ UU ℕ

attribute [local irreducible] Cell.sem cs cfl cst cp

/-- A family over all tasks, by the kind of task. -/
theorem bigSep_kinds (Φ : Task → SP F) : bigSep Finset.univ Φ = bigSep Finset.univ fun k => bigSep (kinds k) Φ := by
  rw [← bigSep_biUnion_eq Finset.univ kinds Φ fun k _ k' _ h =>
    Finset.disjoint_left.mpr fun t ht ht' => h ((Finset.mem_filter.mp ht).2.symm.trans (Finset.mem_filter.mp ht').2)]
  congr 1
  ext t
  simp [kinds]

theorem bigSep_three (Φ : Fin 3 → SP F) : bigSep Finset.univ Φ = iprop(Φ 0 ∗ Φ 1 ∗ Φ 2) :=
  bigSep_univ_eq_bigSepL [0, 1, 2] (by decide) (by decide) Φ

/-- In the order handled, and in the order sent. -/
theorem bigSep_tasks (Φ : Task → SP F) : bigSep Finset.univ Φ = bigSepL tasks Φ :=
  bigSep_univ_eq_bigSepL tasks tasks_univ tasks_nodup Φ
theorem bigSep_pays (Φ : Task → SP F) : bigSep Finset.univ Φ = iprop(bigSepL (xs 12 0) Φ ∗ bigSepL (pays tasks) Φ) :=
  (bigSep_univ_eq_bigSepL payAll payAll_univ payAll_nodup Φ).trans (bigSepL_append _ _ Φ)

variable (m : (ℓ : Loc nD τ sig) → Buf (Elt F) ℓ) (K : Dev nD × KC → ℕ) (c : Dev nD)

/-- The rows received at the neighbours' barrier signals are those of every transfer the device makes. -/
theorem barPay_all : (bigSep Finset.univ fun k => barPay c k : SP F) = bigSep Finset.univ fun t => anyR (t.dst c) t := by
  rw [bigSep_kinds]
  refine bigSep_congr fun k _ => bigSep_congr fun t ht => ?_
  rw [← (Finset.mem_filter.mp ht).2]; rfl

/-- The right to make transfer `t`. -/
def tokP (t : Task) : SP F := iprop(dutyTok ER (gS c t) 0 0 ∗ dutyTok ER (gR (t.dst c) t) 0 0)

/-- The device's own buffers and semaphores for its copies, idle. -/
def idle : SP F := iprop(idF c 0 ∗ idF c 1 ∗ idF c 2 ∗ idB c 0 ∗ idB c 1 ∗ cmn c)

/-- What the body starts from, -/
def bodyPre : SP F :=
  iprop((∃ W, owes (c : Thread nD τ) (O₀ c) W)
    ∗ (bigSep Finset.univ fun k : Fin 3 => dutyTok ER (bar (nb k c)) 0 k) ∗ (bigSep Finset.univ fun t => anyR c t)
    ∗ cred (tallyAt (bar c) () 3) ∗ atPos ER (bar c) 0 ∅ 0
    ∗ bigSep Finset.univ (tokP c) ∗ bigSep Finset.univ (taskRes m c) ∗ (bigSep Finset.univ fun t => atS c t 0)
    ∗ bigSepL (xs 12 0) (xP m c) ∗ bigSepL (xs 12 0) (bP c) ∗ idle c)
/-- and what it leaves. -/
def bodyPost : SP F :=
  iprop(owesX c [] ∗ atPos ER (bar c) (0 + 1) ∅ 0 ∗ bigSep Finset.univ (taskDone m c)
    ∗ (bigSep Finset.univ fun t => atS c t (0 + 1)) ∗ idle c)

theorem xs_split (Φ : Task → SP F) : bigSepL (xs 12 0) Φ = iprop(bigSepL (xs 10 0) Φ ∗ Φ (xt 10) ∗ Φ (xt 11)) := by
  rw [show xs 12 0 = xs 10 0 ++ [xt 10, xt 11] from rfl, bigSepL_append, bigSepL_cons', bigSepL_singleton]

theorem sendRes_intro (t : Task) : iprop(anyR (t.dst c) t ∗ tokP c t) ⊢ (sendRes c t : SP F) := by
  unfold tokP sendRes
  iintro ⟨H1, H2, H3⟩
  isplitl [H2]; · iexact H2
  isplitl [H3] <;> iassumption

/-- The neighbours' rows and the rights to write them, in the order sent. -/
theorem send_regroup : iprop((bigSep Finset.univ fun k => barPay c k) ∗ bigSep Finset.univ (tokP c))
    ⊢ (iprop(bigSepL (xs 10 0) (sendRes c) ∗ sendRes c (xt 10) ∗ sendRes c (xt 11) ∗ bigSepL (pays tasks) (sendRes c)) : SP F) := by
  have h1 : iprop((bigSep Finset.univ fun k => barPay c k) ∗ bigSep Finset.univ (tokP c)) ⊢ (bigSep Finset.univ (sendRes c) : SP F) := by
    rw [barPay_all, ← bigSep_sep']
    exact bigSep_mono fun t _ => sendRes_intro c t
  rw [bigSep_pays (sendRes c), xs_split (sendRes c)] at h1
  iintro H
  ihave H := h1 $$ H
  icases H with ⟨⟨H1, H2, H3⟩, H4⟩
  isplitl [H1]; · iexact H1
  isplitl [H2]; · iexact H2
  isplitl [H3] <;> iassumption

/-- The credits of the transfers made, in the order drained. -/
theorem sent_regroup : iprop((bigSepL (xs 10 0) (crS c) ∗ crS c (xt 10) ∗ crS c (xt 11) ∗ bigSepL (pays tasks) (crS c)) ∗ bigSep Finset.univ fun t => atS c t 0)
    ⊢ (iprop(bigSepL (xs 12 0) (sent c) ∗ bigSepL (pays tasks) (sent c)) : SP F) := by
  have h1 : iprop(bigSep Finset.univ (crS c) ∗ bigSep Finset.univ fun t => atS c t 0) ⊢ (bigSep Finset.univ (sent c) : SP F) := by
    rw [← bigSep_sep']; exact BI.Entails.refl _
  rw [bigSep_pays (sent c), bigSep_pays (crS c), xs_split (crS c)] at h1
  iintro ⟨⟨H1, H2, H3, H4⟩, H5⟩
  iapply h1
  isplitr [H5]; swap; · iexact H5
  isplitr [H4]; swap; · iexact H4
  isplitl [H1]; · iexact H1
  isplitl [H2] <;> iassumption

theorem wp_script {Q : PUnit → SP F} :
    iprop(ctx m K ∗ bodyPre m c ∗ (bodyPost m c -∗ Q ⟨⟩)) ⊢ WP c (script c) Q := by
  unfold script bodyPre bodyPost idle
  rw [bigSep_kinds (anyR c), bigSep_three, bigSep_three, bigSep_tasks (taskRes m c), bigSep_tasks (taskDone m c),
    show xs 12 0 = xt 0 :: xt 1 :: xt 2 :: xt 3 :: xs 8 4 from rfl, bigSepL_cons', bigSepL_cons', bigSepL_cons', bigSepL_cons',
    show xt 0 :: xt 1 :: xt 2 :: xt 3 :: xs 8 4 = xt 0 :: xt 1 :: xs 10 2 from rfl, bigSepL_cons', bigSepL_cons']
  rw [WP_bind]
  iintro ⟨#Hctx, ⟨HO, ⟨Hb0, Hb1, Hb2⟩, ⟨Hr0, Hr1, Hr2⟩, HcB, HatB, Htok, Hres, HatS, ⟨HX0, HX1, HX2, HX3, HXs⟩, ⟨HB0, HB1, HBs⟩,
    HF0, HF1, HF2, HS0, HS1, Hcmn⟩, Hk⟩
  iapply (wp_sigP m K c 0 (xp c) rfl (O₀ c) (O₂ c) rfl)
  isplitr; · iexact Hctx
  isplitl [HO]; · iexact HO
  isplitl [Hb0]; · iexact Hb0
  isplitl [Hr0]; · iexact Hr0
  iintro HO
  rw [WP_bind]
  iapply (wp_sigP m K c 1 (yp c) rfl (O₂ c) (O₁ c) rfl)
  isplitr; · iexact Hctx
  isplitl [HO]; · iexact HO
  isplitl [Hb1]; · iexact Hb1
  isplitl [Hr1]; · iexact Hr1
  iintro HO
  rw [WP_bind]
  iapply (wp_sigP m K c 2 (zp c) rfl (O₁ c) (owedL c payAll) rfl)
  isplitr; · iexact Hctx
  isplitl [HO]; · iexact HO
  isplitl [Hb2]; · iexact Hb2
  isplitl [Hr2]; · iexact Hr2
  iintro HO
  rw [WP_bind]
  iapply (wp_ldP m c 0 (by decide))
  isplitl [HX0]; · iexact HX0
  isplitl [HF0]; · iexact HF0
  iintro HL0
  rw [WP_bind]
  iapply (wp_ldP m c 1 (by decide))
  isplitl [HX1]; · iexact HX1
  isplitl [HF1]; · iexact HF1
  iintro HL1
  rw [WP_bind]
  iapply (wp_ldP m c 2 (by decide))
  isplitl [HX2]; · iexact HX2
  isplitl [HF2]; · iexact HF2
  iintro HL2
  rw [WP_bind]
  iapply (wp_cvP m K c 0 (by decide) payAll)
  isplitr; · iexact Hctx
  isplitl [HL0]; · iexact HL0
  isplitl [HS0]; · iexact HS0
  isplitl [HB0]; · iexact HB0
  isplitl [HO]; · unfold owesX; iexact HO
  iintro ⟨HF0, HS0, HO⟩
  rw [WP_bind]
  iapply (wp_ldP m c 3 (by decide))
  isplitl [HX3]; · iexact HX3
  isplitl [HF0]; · iexact HF0
  iintro HL3
  rw [WP_bind]
  iapply (wp_cvP m K c 1 (by decide) payAll)
  isplitr; · iexact Hctx
  isplitl [HL1]; · iexact HL1
  isplitl [HS1]; · iexact HS1
  isplitl [HB1]; · iexact HB1
  isplitl [HO]; · iexact HO
  iintro ⟨HF1, HS1, HO⟩
  rw [WP_bind]
  iapply (wp_barP m K c payAll)
  isplitr; · iexact Hctx
  isplitl [HcB]; · iexact HcB
  isplitl [HO]; · iexact HO
  isplitl [HatB]; · iexact HatB
  iintro ⟨Hpay, HatB, HO⟩
  ihave Hsend := (send_regroup c) $$ [Hpay Htok]
  · isplitl [Hpay] <;> iassumption
  icases Hsend with ⟨Ht, Ht10, Ht11, Htt⟩
  rw [WP_bind]
  iapply (wp_loopP m K c (xt 10 :: xt 11 :: pays tasks) 8 0 rfl)
  isplitr; · iexact Hctx
  isplitl [HS0 HS1 HL2 HL3 HF1]
  · unfold loopAt
    isplitl [HS0]; · iexact HS0
    isplitl [HS1]; · iexact HS1
    isplitl [HL2]; · iexact HL2
    isplitl [HL3]; · iexact HL3
    iexact HF1
  isplitl [HXs]; · iexact HXs
  isplitl [HBs]; · iexact HBs
  isplitl [Ht]; · iexact Ht
  isplitl [HO]; · iexact HO
  iintro ⟨HS10, HS11, HF0, HF1, HF2, Hcx, HO⟩
  rw [WP_bind]
  iapply (wp_xsP m K c 10 (by decide) (xt 11 :: pays tasks))
  isplitr; · iexact Hctx
  isplitl [HS10]; · iexact HS10
  isplitl [Ht10]; · iexact Ht10
  isplitl [HO]; · iexact HO
  iintro ⟨HS0, Hc10, HO⟩
  rw [WP_bind]
  iapply (wp_xsP m K c 11 (by decide) (pays tasks))
  isplitr; · iexact Hctx
  isplitl [HS11]; · iexact HS11
  isplitl [Ht11]; · iexact Ht11
  isplitl [HO]; · iexact HO
  iintro ⟨HS1, Hc11, HO⟩
  rw [WP_bind]
  iapply (wp_tasksP m K c tasks below_tasks)
  isplitr; · iexact Hctx
  isplitl [Hres]; · iexact Hres
  isplitl [Hcmn]; · iexact Hcmn
  isplitl [Htt]; · iexact Htt
  isplitl [HO]; · iexact HO
  iintro ⟨Hdone, Hcmn, Hct, HO⟩
  ihave Hsent := (sent_regroup c) $$ [Hcx Hc10 Hc11 Hct HatS]
  · isplitr [HatS]; swap; · iexact HatS
    isplitl [Hcx]; · iexact Hcx
    isplitl [Hc10]; · iexact Hc10
    isplitl [Hc11] <;> iassumption
  icases Hsent with ⟨Hsx, Hst⟩
  rw [WP_bind]
  iapply (wp_drainXP m K c 12 0)
  isplitr; · iexact Hctx
  isplitl [Hsx]; · iexact Hsx
  isplitl [HO]; · iexact HO
  iintro ⟨Hax, HO⟩
  iapply (wp_drainTP m K c tasks)
  isplitr; · iexact Hctx
  isplitl [Hst]; · iexact Hst
  isplitl [HO]; · iexact HO
  iintro ⟨Hat, HO⟩
  iapply Hk
  isplitl [HO]; · iexact HO
  isplitl [HatB]; · iexact HatB
  isplitl [Hdone]; · iexact Hdone
  isplitl [Hax Hat]
  · rw [bigSep_pays]; isplitl [Hax] <;> iassumption
  isplitl [HF0]; · iexact HF0
  isplitl [HF1]; · iexact HF1
  isplitl [HF2]; · iexact HF2
  isplitl [HS0]; · iexact HS0
  isplitl [HS1]; · iexact HS1
  iexact Hcmn

end Cert.KernelIdeal.RS

end
-- ==== Proof.Mint.lean ====
/- The protocol set up: every transfer end's and barrier cell's ghost state made, its invariant allocated, and the rights
   to pay dealt to the devices that pay. -/
module

public import proofs.«01_k».proof.Proof.Body

@[expose] public section

set_option maxRecDepth 10000

noncomputable section

namespace Cert.KernelIdeal.RS

open Idealize.ShloMosaic Idealize.ShloMosaic.TcCoe Idealize.ShloMosaic.Rounds Idealize.ShloMosaic.Transfers
open Idealize.SL Idealize.SL.RA Idealize.SL.BI Idealize.SL.ProofMode
open scoped Idealize.SL.BI
open Idealize.SL.BI.BIBase Idealize.SL.BI.Laws Idealize.SL.Sem
open Idealize.SL.BI (sProp)
open Cert.KernelIdeal.Gen

variable {F : FTy → Type} [FloatOps F]

local notation "𝕄" => MT nD τ sig Unit (Elt F) ℕ UU ℕ

/-! ## Families by index -/

theorem bigSep_ends (Φ : Task × Bool → SP F) :
    bigSep Finset.univ Φ = iprop((bigSep Finset.univ fun t => Φ (t, false)) ∗ bigSep Finset.univ fun t => Φ (t, true)) := by
  rw [bigSep_univ_prod, ← bigSep_sep']
  exact bigSep_congr fun t _ => bigSep_univ_eq_bigSepL [false, true] (by decide) (by decide) _

theorem bigSep_opt (Φ : KC → SP F) : bigSep Finset.univ Φ = iprop((bigSep Finset.univ fun p => Φ (some p)) ∗ Φ none) := by
  rw [bigSep_univ_equiv (Equiv.optionEquivSumPUnit.{0, 0} (Task × Bool)).symm, bigSep_univ_sum,
    bigSep_univ_eq_bigSepL [(⟨⟩ : PUnit.{1})] (by decide) (by decide)]
  rfl

/-- All the cells of a device: both ends of its transfers, and its barrier cell. -/
theorem bigSep_KC (Φ : KC → SP F) : bigSep Finset.univ Φ
    = iprop(((bigSep Finset.univ fun t => Φ (some (t, false))) ∗ bigSep Finset.univ fun t => Φ (some (t, true))) ∗ Φ none) := by
  rw [bigSep_opt, bigSep_ends]

/-- The positions of a device's cells, by kind of cell. -/
theorem at_split (c : Dev nD) (r : ℕ) : (bigSep Finset.univ fun k => atPos ER (kcell (c, k)) r ∅ 0 : SP F)
    = iprop(((bigSep Finset.univ fun t => atS c t r) ∗ bigSep Finset.univ fun t => atR c t r) ∗ atPos ER (bar c) r ∅ 0) :=
  bigSep_KC fun k => (atPos ER (kcell (c, k)) r ∅ 0 : SP F)

/-- A family over devices and an index, the devices permuted at each index. -/
theorem around {J : Type} [Fintype J] (σ : J → Equiv.Perm (Dev nD)) (Φ : Dev nD → J → SP F) :
    (bigSep Finset.univ fun c => bigSep Finset.univ fun j => Φ c j) = bigSep Finset.univ fun c => bigSep Finset.univ fun j => Φ (σ j c) j := by
  rw [← bigSep_univ_prod fun p : Dev nD × J => Φ p.1 p.2, ← bigSep_univ_prod fun p : Dev nD × J => Φ (σ p.2 p.1) p.2]
  exact bigSep_univ_equiv ⟨fun p => (σ p.2 p.1, p.2), fun p => ((σ p.2).symm p.1, p.2), fun p => by simp, fun p => by simp⟩ _

def nbE (k : Fin 3) : Equiv.Perm (Dev nD) := ⟨nb k, nb k, nb_nb k, nb_nb k⟩
def dstE (t : Task) : Equiv.Perm (Dev nD) := ⟨t.dst, t.dst, t.dst_dst, t.dst_dst⟩

/-! ## The semaphores -/

/-- The kernel's own semaphores: the transfers', and the device's copies'. -/
def osem : (Task × Bool) ⊕ (Fin 3 ⊕ Fin 2 ⊕ Fin 3) → SemLoc sig
  | .inl p => .dma (cs p)
  | .inr i => .dma (ls i)
theorem ownSemFacts : Pipeline.OwnSemFacts cfg0.spec osem := by decide +kernel

abbrev ownS (c : Dev nD) : SP F := Pipeline.ownSems0 (Ix := Unit) (Name := ℕ) (U := UU) (Lvl := ℕ) (Val := Elt F) (τ := τ) osem c
/-- The semaphores of the device's own copies, idle. -/
def lsems (c : Dev nD) : SP F := bigSep Finset.univ fun i => sv c (ls i)

theorem ownSems0_eq (c : Dev nD) :
    (ownS c : SP F) = iprop((bigSep Finset.univ fun p => semVal (kcell (c, some p)) 0) ∗ lsems c) := by
  unfold ownS Pipeline.ownSems0 lsems
  rw [bigSep_univ_sum]; rfl
theorem unscopedSems0_eq (c : Dev nD) : (unscopedSems0 c : SP F) = semVal (bar c) 0 := by
  unfold unscopedSems0; rw [bigSep_eq_bigSepL_of_eq [SemLoc.reg barS] (by decide +kernel) (by decide)]; rfl

theorem sems0_eq (c : Dev nD) :
    iprop(ownS c ∗ unscopedSems0 c) ⊢ (iprop((bigSep Finset.univ fun k => semVal (kcell (c, k)) 0) ∗ lsems c) : SP F) := by
  rw [ownSems0_eq, unscopedSems0_eq, bigSep_opt]
  iintro ⟨⟨H1, H2⟩, H3⟩
  isplitr [H2]; swap; · iexact H2
  isplitl [H1]; · iexact H1
  iexact H3
theorem sems0_back (c : Dev nD) :
    iprop((bigSep Finset.univ fun k => semVal (kcell (c, k)) 0) ∗ lsems c) ⊢ (iprop(unscopedSems0 c ∗ ownS c) : SP F) := by
  rw [ownSems0_eq, unscopedSems0_eq, bigSep_opt]
  iintro ⟨⟨H1, H3⟩, H2⟩
  isplitl [H3]; · iexact H3
  isplitl [H1] <;> iassumption

/-! ## Making the ghost state -/

theorem ksem_inj : Function.Injective ksem := by
  rintro (_ | p) (_ | q) h
  · rfl
  · exact absurd h.symm (dma_ne_bar _)
  · exact absurd h (dma_ne_bar _)
  · exact congrArg some (cs_inj (SemLoc.dma.inj h))
theorem tc_inj {a b : Dev nD} (h : (a : Thread nD τ) = b) : a = b := congrArg Prod.fst h
theorem kcell_inj : Function.Injective kcell := by
  rintro ⟨c, k⟩ ⟨c', k'⟩ h
  exact Prod.ext (tc_inj (congrArg Prod.fst h)) (ksem_inj (congrArg Prod.snd h))
def allCells : Finset (GSem nD τ sig) := Finset.univ.map ⟨kcell, kcell_inj⟩

/-- The rights to pay, as made: a barrier cell's three, a transfer end's one. -/
def tokOf : Dev nD × (Fin 3 ⊕ (Task × Bool)) → GSem nD τ sig × ℕ × Fin 3
  | (c, .inl k) => (bar c, 0, k)
  | (c, .inr p) => (kcell (c, some p), 0, 0)
theorem tokOf_inj : Function.Injective tokOf := by
  rintro ⟨c, k | p⟩ ⟨c', k' | p'⟩ h
  · have h1 : (c, (none : KC)) = (c', none) := kcell_inj (congrArg Prod.fst h)
    have h2 : k = k' := congrArg (fun x => x.2.2) h
    cases h1; cases h2; rfl
  · have h1 : (c, (none : KC)) = (c', some p') := kcell_inj (congrArg Prod.fst h)
    cases h1
  · have h1 : (c, (some p : KC)) = (c', none) := kcell_inj (congrArg Prod.fst h)
    cases h1
  · have h1 : (c, (some p : KC)) = (c', some p') := kcell_inj (congrArg Prod.fst h)
    cases h1; rfl
def allToks : Finset (GSem nD τ sig × ℕ × Fin 3) := Finset.univ.map ⟨tokOf, tokOf_inj⟩

def u₀ : UU := (initOf (Pipeline.cells cfgs cellOf_inj) (Pipeline.launchToks cfgs cellOf_inj), (initOf allCells allToks, 1))

/-- The rights to pay a device's own cells, -/
def toks (c : Dev nD) : SP F :=
  iprop((bigSep Finset.univ fun k : Fin 3 => dutyTok ER (bar c) 0 k) ∗ bigSep Finset.univ fun p : Task × Bool => dutyTok ER (kcell (c, some p)) 0 0)
/-- and those a device pays with: a signal to each neighbour, both ends of each transfer it makes. -/
def payToks (c : Dev nD) : SP F :=
  iprop((bigSep Finset.univ fun k : Fin 3 => dutyTok ER (bar (nb k c)) 0 k) ∗ bigSep Finset.univ (tokP c))

theorem toks_around : (bigSep Finset.univ fun c => (toks c : SP F)) ⊢ bigSep Finset.univ fun c => payToks c := by
  refine Entails.of_eq ?_
  unfold toks payToks tokP
  simp only [bigSep_ends, bigSep_sep']
  rw [around nbE fun c k => (dutyTok ER (bar c) 0 k : SP F), around dstE fun c t => (dutyTok ER (kcell (c, some (t, true))) 0 0 : SP F)]
  rfl

variable (m : (ℓ : Loc nD τ sig) → Buf (Elt F) ℓ)

/-- What a device is dealt of the ghost state. -/
def G (c : Dev nD) : SP F :=
  iprop((bigSep Finset.univ fun k => roundState ER (Rd m) (kcell (c, k)) 0)
    ∗ (bigSep Finset.univ fun k => iprop(atPos ER (kcell (c, k)) 0 ∅ 0 ∗ reached ER (kcell (c, k)) 0)) ∗ toks c)

theorem fund_all : BI.own (ER (F := F) (initOf allCells allToks)) ⊢ (|==> bigSep Finset.univ (G m) : SP F) := by
  have hX (Φ : GSem nD τ sig → SP F) : bigSep allCells Φ = bigSep Finset.univ fun c => bigSep Finset.univ fun k => Φ (kcell (c, k)) := by
    unfold allCells; rw [bigSep_map, bigSep_univ_prod]; rfl
  have hT : bigSep allToks (fun x => (dutyTok ER x.1 x.2.1 x.2.2 : SP F)) = bigSep Finset.univ fun c => toks c := by
    unfold allToks; rw [bigSep_map, bigSep_univ_prod]
    exact bigSep_congr fun c _ => by unfold toks; rw [bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Allocating the invariants -/

/-- What a device keeps for itself: its positions, its rights to pay, its idle semaphores; -/
def linear (c : Dev nD) : SP F := iprop((bigSep Finset.univ fun k => atPos ER (kcell (c, k)) 0 ∅ 0) ∗ payToks c ∗ lsems c)
/-- and with it what everyone knows. -/
def G' (c : Dev nD) : SP F := iprop(∃ K, recs m K ∗ linear c)

theorem cells_alloc (c : Dev nD) :
    iprop((bigSep Finset.univ fun k => semVal (kcell (c, k)) 0) ∗ bigSep Finset.univ fun k => roundState ER (Rd m) (kcell (c, k)) 0)
      ⊢ (|={Set.univ}=> bigSep Finset.univ fun k => iprop(∃ κ : ℕ, cellInv ER (Rd m) κ (kcell (c, k))) : SP F) := by
  rw [← bigSep_sep']
  exact (bigSep_mono fun k _ => (Rounds.body_intro ER (Rd m) (kcell (c, k))).trans inv_alloc).trans (bigSep_fupd _ _)

theorem core_alloc (c : Dev nD) :
    iprop(ownS c ∗ unscopedSems0 c ∗ G m c)
      ⊢ (|={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ lsems c) : SP F) := by
  unfold G
  iintro ⟨Hos, Hus, Hst, Hat, Htok⟩
  ihave Hv := (sems0_eq (F := F) c) $$ [Hos Hus]
  · isplitl [Hos] <;> iassumption
  icases Hv with ⟨Hv, Hls⟩
  imod (cells_alloc m c) $$ [Hv Hst] with Hinv
  · isplitl [Hv] <;> iassumption
  imodintro
  isplitl [Hinv]; · iexact Hinv
  isplitl [Hat]; · iexact Hat
  isplitl [Htok] <;> iassumption

theorem G'_intro (K : Dev nD × KC → ℕ) (c : Dev nD) : iprop(recs m K ∗ linear c) ⊢ G' m c := by
  unfold G'; iintro H; iexists K; iexact H

theorem linear_intro :
    iprop((bigSep Finset.univ fun c => bigSep Finset.univ fun k => atPos ER (kcell (c, k)) 0 ∅ 0) ∗ (bigSep Finset.univ fun c => payToks c)
      ∗ bigSep Finset.univ fun c => lsems c) ⊢ (bigSep Finset.univ fun c => linear c : SP F) := by
  unfold linear; simp only [bigSep_sep']; exact BI.Entails.refl _

theorem regroup :
    (bigSep Finset.univ fun c => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ lsems c) : SP F)
      ⊢ bigSep Finset.univ (G' m) := by
  rw [bigSep_sep', bigSep_sep', bigSep_sep', ← bigSep_univ_prod (fun ck : Dev nD × KC => iprop(∃ κ : ℕ, cellInv ER (Rd m) κ (kcell ck))),
    bigSep_congr (s := Finset.univ) (fun (c : Dev nD) _ => bigSep_sep' Finset.univ (fun k => (atPos ER (kcell (c, k)) 0 ∅ 0 : SP F)) (fun k => reached ER (kcell (c, k)) 0)),
    bigSep_sep', ← bigSep_univ_prod (fun ck : Dev nD × KC => (reached ER (kcell ck) 0 : SP F))]
  iintro ⟨HI, ⟨Hat, #HR⟩, Htok, Hls⟩
  ihave HK := (BI.bigSep_exists_pi Finset.univ (fun (ck : Dev nD × KC) (κ : ℕ) => (cellInv ER (Rd m) κ (kcell ck) : SP F))) $$ HI
  icases HK with ⟨%K, #HI⟩
  ihave Htk := (toks_around (F := F)) $$ Htok
  ihave Hl := (linear_intro (F := F)) $$ [Hat Htk Hls]
  · isplitl [Hat]; · iexact Hat
    isplitl [Htk] <;> iassumption
  iapply (BI.bigSep_with_persistent (S := Finset.univ) (R := recs m K) (Φ := fun c => linear c) (Ψ := G' m) fun c _ => G'_intro m K c)
  isplitr; swap; · iexact Hl
  unfold recs
  isplitr; · iexact HI
  iexact HR

/-- From every device's semaphores at zero and its share of the ghost state: the invariants, and each device's own part. -/
theorem glob : (bigSep Finset.univ fun c => iprop(ownS c ∗ unscopedSems0 c ∗ G m c) : SP F) ⊢ |={Set.univ}=> bigSep Finset.univ (G' m) :=
  ((bigSep_mono fun c _ => core_alloc m c).trans (bigSep_fupd _ _)).trans (BI.fupd_mono (regroup m))

/-! ## The launch credit -/

theorem bar_inj {a b : Dev nD} (h : bar a = bar b) : a = b := tc_inj (congrArg Prod.fst h)
theorem gR_inj {a b : Dev nD} {t t' : Task} (h : gR a t = gR b t') : a = b ∧ t = t' := by
  have h1 : (a, (some (t, true) : KC)) = (b, some (t', true)) := kcell_inj h
  cases h1; exact ⟨rfl, rfl⟩
theorem gR_ne_bar (a b : Dev nD) (t : Task) : gR a t ≠ bar b := fun h => dma_ne_bar _ (congrArg Prod.snd h)

theorem owedL_bar (d c : Dev nD) (l : List Task) : owedL d l (bar c) () = 0 := by
  induction l with
  | nil => rfl
  | cons t l ih =>
    unfold owedL
    rw [Pi.add_apply, Finsupp.add_apply, ih, tallyAt_apply, if_neg fun h => gR_ne_bar _ _ _ h.1.symm]
theorem owedL_R (d c : Dev nD) (t : Task) (l : List Task) : owedL d l (gR c t) () = if d = t.dst c then l.count t * N else 0 := by
  induction l with
  | nil => simp [owedL]
  | cons t' l ih =>
    unfold owedL
    rw [Pi.add_apply, Finsupp.add_apply, ih, tallyAt_apply]
    by_cases hd : d = t.dst c
    · rw [if_pos hd, if_pos hd]
      by_cases ht : t' = t
      · subst ht
        rw [if_pos ⟨by rw [hd, Task.dst_dst], rfl⟩, List.count_cons_self, Nat.add_mul, Nat.one_mul]
      · rw [if_neg fun h => ht (gR_inj h.1).2.symm, List.count_cons_of_ne ht, Nat.add_zero]
    · rw [if_neg hd, if_neg hd, if_neg]
      rintro ⟨h, -⟩
      obtain ⟨h1, h2⟩ := gR_inj h
      subst h2
      exact hd (by rw [h1, Task.dst_dst])

theorem tally_bar (k : Fin 3) (d c : Dev nD) : tallyAt (nD := nD) (τ := τ) (sig := sig) (bar (nb k d)) () 1 (bar c) () = if d = nb k c then 1 else 0 := by
  rw [tallyAt_apply]
  by_cases h : d = nb k c
  · subst h; rw [nb_nb, if_pos ⟨rfl, rfl⟩, if_pos rfl]
  · rw [if_neg h, if_neg]
    rintro ⟨h1, -⟩
    exact h (by rw [bar_inj h1, nb_nb])

theorem owed_bar (d c : Dev nD) : O₀ d (bar c) () = (if d = nb 2 c then 1 else 0) + (if d = nb 1 c then 1 else 0) + (if d = nb 0 c then 1 else 0) := by
  unfold O₀ O₂ O₁
  rw [Pi.add_apply, Finsupp.add_apply, Pi.add_apply, Finsupp.add_apply, Pi.add_apply, Finsupp.add_apply, owedL_bar, Nat.zero_add]
  rw [← tally_bar 0, ← tally_bar 1, ← tally_bar 2]; rfl
theorem owed_R (d c : Dev nD) (t : Task) : O₀ d (gR c t) () = if d = t.dst c then N else 0 := by
  unfold O₀ O₂ O₁
  rw [Pi.add_apply, Finsupp.add_apply, Pi.add_apply, Finsupp.add_apply, Pi.add_apply, Finsupp.add_apply, owedL_R, payAll_count, Nat.one_mul,
    tallyAt_apply, tallyAt_apply, tallyAt_apply, if_neg fun h : gR c t = bar (zp d) ∧ _ => gR_ne_bar _ _ _ h.1,
    if_neg fun h : gR c t = bar (yp d) ∧ _ => gR_ne_bar _ _ _ h.1, if_neg fun h : gR c t = bar (xp d) ∧ _ => gR_ne_bar _ _ _ h.1]
  rfl

theorem launch_bar (c : Dev nD) :
    tallyOn (bar c) (launchCredit (Pipeline.owing O₀) 0 (bar c)) = (tallyAt (bar c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (nb 2 c) fun _ => 1, Finset.sum_ite_eq' Finset.univ (nb 1 c) fun _ => 1, Finset.sum_ite_eq' Finset.univ (nb 0 c) fun _ => 1,
    if_pos (Finset.mem_univ _), if_pos (Finset.mem_univ _), if_pos (Finset.mem_univ _)]
theorem launch_R (c : Dev nD) (t : Task) :
    tallyOn (gR c t) (launchCredit (Pipeline.owing O₀) 0 (gR c t)) = (tallyAt (gR c t) () N : CellTallies nD τ sig Unit) := by
  unfold tallyAt; refine congrArg _ (Finsupp.ext fun u => ?_); cases u
  rw [Pipeline.launchCredit_owing, Finsupp.single_eq_same, Finset.sum_congr rfl fun d _ => owed_R d c t,
    Finset.sum_ite_eq' Finset.univ (t.dst c) fun _ => N, if_pos (Finset.mem_univ _)]

def rsem (t : Task) : SemLoc sig := .dma t.cell.sem
theorem rsem_inj : Function.Injective rsem := fun t t' h => by
  have h1 : (some (t, true) : KC) = some (t', true) := ksem_inj h
  cases h1; rfl

/-- At launch a device holds its barrier's three units and the credit of every chunk it is to receive. -/
theorem creds (c : Dev nD) :
    (Pipeline.launchCred O₀ c : SP F) ⊢ iprop(cred (tallyAt (bar c) () 3) ∗ bigSep Finset.univ (crR c)) := by
  unfold Pipeline.launchCred
  rw [bigSep_univ_at _ (SemLoc.reg barS), launch_bar]
  refine sep_mono_right ?_
  refine (bigSep_subset (t := Finset.univ.map ⟨rsem, rsem_inj⟩) fun s hs => ?_).trans ?_
  · obtain ⟨t, -, rfl⟩ := Finset.mem_map.mp hs
    exact Finset.mem_erase.mpr ⟨dma_ne_bar _, Finset.mem_univ _⟩
  · rw [bigSep_map]
    refine bigSep_mono fun t _ => ?_
    unfold crR; rw [← launch_R]; exact BI.Entails.refl _

end Cert.KernelIdeal.RS

end
-- ==== Proof.Pieces.lean ====
/- The buffers in pieces: a whole array as its 32 chunks, a load or store buffer as its slots; and back. -/
module

public import proofs.«01_k».proof.Proof.Body
public import Idealize.ShloMosaic.Lib.MemrefSat

@[expose] public section

set_option maxRecDepth 10000

noncomputable section

namespace Cert.KernelIdeal.RS

open Idealize.ShloMosaic Idealize.ShloMosaic.TcCoe Idealize.ShloMosaic.Rounds Idealize.ShloMosaic.Transfers
open Idealize.SL Idealize.SL.RA Idealize.SL.BI Idealize.SL.ProofMode
open scoped Idealize.SL.BI
open Idealize.SL.BI.BIBase Idealize.SL.BI.Laws Idealize.SL.Sem
open Idealize.SL.BI (sProp)
open Cert.KernelIdeal.Gen

variable {F : FTy → Type} [FloatOps F]

local notation "𝕄" => MT nD τ sig Unit (Elt F) ℕ UU ℕ

/-! ## The chunks are the array -/

/-- The rows of chunk `t` at device `c`. -/
abbrev rT (c : Dev nD) (t : Task) : Rect S16384x1024 := Rect.unit (s := S16384x1024) (t.ch.blk c).off S512x1024.size (t.ch.blk c).inb

/-- An index is in the chunk whose number its row has. -/
theorem mem_rT (c : Dev nD) (t : Task) (i : S16384x1024.Idx) : i ∈ (rT c t).set ↔ (i 0 : ℕ) / 512 = t.num c := by
  rw [Rect.mem_set_unit, off_eq]
  constructor
  · intro h
    obtain ⟨h1, h2⟩ := h 0
    have e : S512x1024.size 0 = 512 := rfl
    rw [e] at h2
    change 512 * t.num c ≤ _ at h1
    change _ < 512 * t.num c + 512 at h2
    omega
  · intro h a
    fin_cases a
    · change 512 * t.num c ≤ (i 0 : ℕ) ∧ (i 0 : ℕ) < 512 * t.num c + 512
      omega
    · have h1 : ((i 1 : Fin _) : ℕ) < 1024 := (i 1).isLt
      change 0 ≤ ((i 1 : Fin _) : ℕ) ∧ ((i 1 : Fin _) : ℕ) < 0 + 1024
      omega

theorem rT_disj (c : Dev nD) (t t' : Task) (h : t ≠ t') : Disjoint (rT c t).set (rT c t').set :=
  Finset.disjoint_left.mpr fun i h1 h2 => h (num_inj c t t' (((mem_rT c t i).mp h1).symm.trans ((mem_rT c t' i).mp h2)))

/-- Every index is in a chunk. -/
theorem exists_rT (c : Dev nD) (i : S16384x1024.Idx) : ∃ t, i ∈ (rT c t).set := by
  have hi : (i 0 : ℕ) < 16384 := (i 0).isLt
  obtain ⟨t, ht⟩ := num_surj c ⟨(i 0 : ℕ) / 512, by omega⟩
  exact ⟨t, (mem_rT c t i).mpr ht.symm⟩
theorem rT_cov (c : Dev nD) : (Finset.univ : Finset Task).biUnion (fun t => (rT c t).set) = Finset.univ := by
  ext i
  obtain ⟨t, ht⟩ := exists_rT c i
  exact ⟨fun _ => Finset.mem_univ _, fun _ => Finset.mem_biUnion.mpr ⟨t, Finset.mem_univ _, ht⟩⟩

/-- An array from its slices, each at contents given. -/
theorem own_of_rects (c : Dev nD) {sp : Space} {e : EltTy} {s : Shape} {T : Type} [Fintype T] [DecidableEq T] (M : Memref sig .tc sp s e) (r : T → Rect s)
    (hr : ∀ t a, (r t).stride a = 1) (hd : ∀ t t', t ≠ t' → Disjoint (r t).set (r t').set)
    (hcov : (Finset.univ : Finset T).biUnion (fun t => (r t).set) = Finset.univ) (V : ∀ t, (r t).shape.Idx → Elt F e) :
    (bigSep Finset.univ fun t => owns (c : Thread nD τ) (M.slice (r t) (hr t)) fullShare (V t))
      ⊢ (iprop(∃ X, ⌜∀ t, (fun j => X ((r t).emb j)) = V t⌝ ∗ owns (c : Thread nD τ) M fullShare X) : SP F) := by
  refine (bigSep_mono fun t _ => (show (owns (c : Thread nD τ) (M.slice (r t) (hr t)) fullShare (V t) : SP F)
      ⊢ ownsSat (c : Thread nD τ) (M.slice (r t) (hr t)) fullShare fun X => X = V t from
        ownsSat_intro (c : Thread nD τ) (M.slice (r t) (hr t)) fullShare (Φ := fun X => X = V t) (X := V t) rfl)).trans
    ((ownsSat_of_rects (c : Thread nD τ) M fullShare r hr hd hcov fun t X => X = V t).trans
      (ownsSat_elim (c : Thread nD τ) M fullShare _))

section Whole
variable (c : Dev nD) {e : EltTy} (M : Memref sig .tc .hbm S16384x1024 e)

/-- A whole array owned is its chunks owned. -/
theorem own_chunks (q : PosShare TreeShare) (V : S16384x1024.Idx → Elt F e) :
    (owns (c : Thread nD τ) M q V : SP F)
      ⊢ bigSep Finset.univ fun t : Task => owns (c : Thread nD τ) ((t.ch.blk c).of M) q fun j => V ((rT c t).emb j) :=
  owns_rects (c : Thread nD τ) M q (rT c) (fun _ _ => rfl) (rT_disj c) (rT_cov c) V

/-- The same with the contents dropped. -/
theorem any_chunks : (anyP c M : SP F) ⊢ bigSep Finset.univ fun t : Task => anyP c ((t.ch.blk c).of M) := by
  conv_lhs => unfold anyP
  iintro ⟨%V, H⟩
  iapply ((own_chunks c M fullShare V).trans (bigSep_mono fun t _ => any_intro c _ _)); iexact H

/-- The array from its chunks, each at contents given. -/
theorem chunks_own (V : Task → FVec F S512x1024 .bf16) (M : Memref sig .tc .hbm S16384x1024 .bf16) :
    (bigSep Finset.univ fun t : Task => owns (c : Thread nD τ) ((t.ch.blk c).of M) fullShare (V t))
      ⊢ (iprop(∃ X, ⌜∀ t, (fun j => X ((rT c t).emb j)) = V t⌝ ∗ owns (c : Thread nD τ) M fullShare X) : SP F) :=
  own_of_rects c M (rT c) (fun _ _ => rfl) (rT_disj c) (rT_cov c) V

end Whole

/-! ## Slots -/

section Slots
variable (c : Dev nD) {sp : Space} {e : EltTy}

/-- A buffer's slices, with the contents dropped, are the buffer. -/
theorem any_rects {s : Shape} {T : Type} [Fintype T] [DecidableEq T] (M : Memref sig .tc sp s e) (r : T → Rect s) (hr : ∀ t a, (r t).stride a = 1)
    (hd : ∀ t t', t ≠ t' → Disjoint (r t).set (r t').set) (hcov : (Finset.univ : Finset T).biUnion (fun t => (r t).set) = Finset.univ) :
    (anyP c M : SP F) ⊢ bigSep Finset.univ fun t => anyP c (M.slice (r t) (hr t)) := by
  conv_lhs => unfold anyP
  iintro ⟨%V, H⟩
  iapply ((owns_rects (c : Thread nD τ) M fullShare r hr hd hcov V).trans (bigSep_mono fun t _ => any_intro c _ _)); iexact H

theorem any_of_rects {s : Shape} {T : Type} [Fintype T] [DecidableEq T] (M : Memref sig .tc sp s e) (r : T → Rect s) (hr : ∀ t a, (r t).stride a = 1)
    (hd : ∀ t t', t ≠ t' → Disjoint (r t).set (r t').set) (hcov : (Finset.univ : Finset T).biUnion (fun t => (r t).set) = Finset.univ) :
    (bigSep Finset.univ fun t => anyP c (M.slice (r t) (hr t)) : SP F) ⊢ anyP c M := by
  refine (bigSep_mono fun t _ => (show (anyP c (M.slice (r t) (hr t)) : SP F) ⊢ ownsSat (c : Thread nD τ) (M.slice (r t) (hr t)) fullShare fun _ => True from ?_)).trans
    ((ownsSat_of_rects (c : Thread nD τ) M fullShare r hr hd hcov fun _ _ => True).trans
      ((ownsSat_elim (c : Thread nD τ) M fullShare _).trans ?_))
  · unfold anyP
    iintro ⟨%V, H⟩
    iapply (ownsSat_intro (c : Thread nD τ) (M.slice (r t) (hr t)) fullShare (Φ := fun _ => True) (X := V) trivial); iexact H
  · unfold anyP
    iintro ⟨%V, -, H⟩
    iexists V; iexact H

/-- Dropping an axis of extent one keeps the elements. -/
theorem any_squeeze {s s' : Shape} (M : Memref sig .tc sp s e) (h : s.Squeezes s') : (anyP c M : SP F) ⊢ anyP c (M.squeeze s' h) := by
  unfold anyP owns
  iintro ⟨%V, %f, -, H⟩
  iexists _; iexists f
  isplitr; · ipureintro; rfl
  rw [show (M.squeeze s' h).view.set = M.view.set from View.set_reshape M.view _]
  iexact H
theorem any_unsqueeze {s s' : Shape} (M : Memref sig .tc sp s e) (h : s.Squeezes s') : (anyP c (M.squeeze s' h) : SP F) ⊢ anyP c M := by
  unfold anyP owns
  iintro ⟨%V, %f, -, H⟩
  iexists _; iexists f
  isplitr; · ipureintro; rfl
  rw [show (M.squeeze s' h).view.set = M.view.set from View.set_reshape M.view _]
  iexact H

end Slots

theorem mem_rFV (i : Fin 3) (x : S3x512x1024.Idx) : x ∈ (rFV i).set ↔ (x 0 : ℕ) = i.val := by
  rw [Rect.mem_set_unit]
  constructor
  · intro h
    obtain ⟨h1, h2⟩ := h 0
    change i.val ≤ _ at h1
    change _ < i.val + 1 at h2
    omega
  · intro h a
    fin_cases a
    · change i.val ≤ (x 0 : ℕ) ∧ (x 0 : ℕ) < i.val + 1
      omega
    · have h1 : ((x 1 : Fin _) : ℕ) < 512 := (x 1).isLt
      change 0 ≤ ((x 1 : Fin _) : ℕ) ∧ ((x 1 : Fin _) : ℕ) < 0 + 512
      omega
    · have h1 : ((x 2 : Fin _) : ℕ) < 1024 := (x 2).isLt
      change 0 ≤ ((x 2 : Fin _) : ℕ) ∧ ((x 2 : Fin _) : ℕ) < 0 + 1024
      omega
theorem mem_rBV (i : Fin 2) (x : S2x512x1024.Idx) : x ∈ (rBV i).set ↔ (x 0 : ℕ) = i.val := by
  rw [Rect.mem_set_unit]
  constructor
  · intro h
    obtain ⟨h1, h2⟩ := h 0
    change i.val ≤ _ at h1
    change _ < i.val + 1 at h2
    omega
  · intro h a
    fin_cases a
    · change i.val ≤ (x 0 : ℕ) ∧ (x 0 : ℕ) < i.val + 1
      omega
    · have h1 : ((x 1 : Fin _) : ℕ) < 512 := (x 1).isLt
      change 0 ≤ ((x 1 : Fin _) : ℕ) ∧ ((x 1 : Fin _) : ℕ) < 0 + 512
      omega
    · have h1 : ((x 2 : Fin _) : ℕ) < 1024 := (x 2).isLt
      change 0 ≤ ((x 2 : Fin _) : ℕ) ∧ ((x 2 : Fin _) : ℕ) < 0 + 1024
      omega

theorem rFV_disj (i i' : Fin 3) (h : i ≠ i') : Disjoint (rFV i).set (rFV i').set :=
  Finset.disjoint_left.mpr fun x h1 h2 => h (Fin.ext (((mem_rFV i x).mp h1).symm.trans ((mem_rFV i' x).mp h2)))
theorem rFV_cov : (Finset.univ : Finset (Fin 3)).biUnion (fun i => (rFV i).set) = Finset.univ := by
  ext x
  exact ⟨fun _ => Finset.mem_univ _, fun _ => Finset.mem_biUnion.mpr ⟨x 0, Finset.mem_univ _, (mem_rFV _ x).mpr rfl⟩⟩
theorem rBV_disj (i i' : Fin 2) (h : i ≠ i') : Disjoint (rBV i).set (rBV i').set :=
  Finset.disjoint_left.mpr fun x h1 h2 => h (Fin.ext (((mem_rBV i x).mp h1).symm.trans ((mem_rBV i' x).mp h2)))
theorem rBV_cov : (Finset.univ : Finset (Fin 2)).biUnion (fun i => (rBV i).set) = Finset.univ := by
  ext x
  exact ⟨fun _ => Finset.mem_univ _, fun _ => Finset.mem_biUnion.mpr ⟨x 0, Finset.mem_univ _, (mem_rBV _ x).mpr rfl⟩⟩

/-- The load buffer is its three slots, the store buffer its two. -/
theorem fv_split (c : Dev nD) : (anyP c FV : SP F) ⊢ bigSep Finset.univ fun i : Fin 3 => anyP c (FVs i) :=
  (any_rects c FV rFV (fun _ _ => rfl) rFV_disj rFV_cov).trans (bigSep_mono fun i _ => any_squeeze c _ _)
theorem fv_join (c : Dev nD) : (bigSep Finset.univ fun i : Fin 3 => anyP c (FVs i) : SP F) ⊢ anyP c FV :=
  (bigSep_mono fun i _ => any_unsqueeze c _ _).trans (any_of_rects c FV rFV (fun _ _ => rfl) rFV_disj rFV_cov)
theorem bv_split (c : Dev nD) : (anyP c BV : SP F) ⊢ bigSep Finset.univ fun i : Fin 2 => anyP c (BVs i) :=
  (any_rects c BV rBV (fun _ _ => rfl) rBV_disj rBV_cov).trans (bigSep_mono fun i _ => any_squeeze c _ _)
theorem bv_join (c : Dev nD) : (bigSep Finset.univ fun i : Fin 2 => anyP c (BVs i) : SP F) ⊢ anyP c BV :=
  (bigSep_mono fun i _ => any_unsqueeze c _ _).trans (any_of_rects c BV rBV (fun _ _ => rfl) rBV_disj rBV_cov)

/-- A whole buffer at unknown contents. -/
theorem any_whole (c : Dev nD) (b : Ref sig .tc) :
    (anyP c (Memref.whole b) : SP F) = iprop(∃ f : Buf (Elt F) ((c : Thread nD τ).loc b), ((c : Thread nD τ).loc b) ↦{fullShare} f) := by
  unfold anyP
  simp only [owns_whole]

end Cert.KernelIdeal.RS

end
-- ==== Proof.Run.lean ====
/- The launch: every device's body from the memory it starts with, and what the final memory holds. -/
module

public import proofs.«01_k».proof.Proof.Mint
public import proofs.«01_k».proof.Proof.Pieces

@[expose] public section

set_option maxRecDepth 65536

noncomputable section

namespace Cert.KernelIdeal.RS

open Idealize.ShloMosaic Idealize.ShloMosaic.TcCoe Idealize.ShloMosaic.Rounds Idealize.ShloMosaic.Transfers
open Idealize.SL Idealize.SL.RA Idealize.SL.BI Idealize.SL.ProofMode
open scoped Idealize.SL.BI
open Idealize.SL.BI.BIBase Idealize.SL.BI.Laws Idealize.SL.Sem
open Idealize.SL.BI (sProp)
open Cert.KernelIdeal.Gen
open Idealize.ShloMosaic.Pipeline (Dat BodyObligation)

variable {F : FTy → Type} [FloatOps F]

local notation "𝕄" => MT nD τ sig Unit (Elt F) ℕ UU ℕ

attribute [local irreducible] Cell.sem cs cfl cst cp

variable (m : (ℓ : Loc nD τ sig) → Buf (Elt F) ℓ) (ρ : Dev nD → PrngReg) (c : Dev nD)

/-- A device's argument as launched. -/
abbrev argV : S16384x1024.Idx → Elt F .f32 := m ((c : Thread nD τ).loc main_arg0)

/-! ## The argument, shared out by chunk -/

theorem x_chunks (q : PosShare TreeShare) : (owns (c : Thread nD τ) X q (argV m c) : SP F) ⊢ bigSep Finset.univ (xP m c) :=
  (own_chunks c X q (argV m c)).trans (bigSep_mono fun t _ => by
    unfold xP; exact shr_intro c ((t.ch.blk c).of X) q (xV m c (t.ch.blk c)))

/-- Two families of shares of the argument's chunks, and half of it kept. -/
theorem x_split : (owns (c : Thread nD τ) X fullShare (argV m c) : SP F)
    ⊢ iprop((bigSep Finset.univ (xP m c) ∗ bigSep Finset.univ (xP m c)) ∗ owns (c : Thread nD τ) X fullShare.right (argV m c)) := by
  iintro H
  ihave H := ((owns_share (c : Thread nD τ) X (PosShare.mem_left_op_right fullShare) (argV m c)).1) $$ H
  icases H with ⟨H, Hr⟩
  ihave H := ((owns_share (c : Thread nD τ) X (PosShare.mem_left_op_right fullShare.left) (argV m c)).1) $$ H
  icases H with ⟨H1, H2⟩
  isplitr [Hr]; swap; · iexact Hr
  isplitl [H1]
  · iapply (x_chunks m c fullShare.left.left); iexact H1
  · iapply (x_chunks m c fullShare.left.right); iexact H2

/-! ## The device's idle buffers -/

/-- The kernel's own buffers, contents unknown. -/
def scr : SP F := iprop(anyP c FV ∗ anyP c BV ∗ anyP c AV ∗ anyP c RV ∗ anyP c OV)
theorem scoped_eq : (Pipeline.scopedRest (Ix := Unit) (Name := ℕ) (U := UU) (Lvl := ℕ) (Val := Elt F) (cfg0.spec) c : SP F) = scr c := by
  rw [scopedRest0_eq]
  unfold scr FV BV AV RV OV
  simp only [any_whole]

theorem bigSep_two (Φ : Fin 2 → SP F) : bigSep Finset.univ Φ = iprop(Φ 0 ∗ Φ 1) :=
  bigSep_univ_eq_bigSepL [0, 1] (by decide) (by decide) Φ

theorem lsems_eq : (lsems c : SP F) = iprop((bigSep Finset.univ fun i => sv c (cfl i)) ∗ (bigSep Finset.univ fun i => sv c (cst i))
    ∗ bigSep Finset.univ fun i => sv c (cp i)) := by
  unfold lsems
  rw [bigSep_univ_sum, bigSep_univ_sum]
  rfl

theorem idle_intro : iprop(lsems c ∗ scr c) ⊢ (idle c : SP F) := by
  rw [lsems_eq]
  unfold scr idle idF idB cmn
  iintro ⟨⟨H1, H2, H3⟩, HF, HB, HA, HR, HO⟩
  ihave HF := (fv_split c) $$ HF
  ihave HB := (bv_split c) $$ HB
  ihave H1 := (Entails.of_eq (bigSep_three fun i => (sv c (cfl i) : SP F))) $$ H1
  ihave H2 := (Entails.of_eq (bigSep_two fun i => (sv c (cst i) : SP F))) $$ H2
  ihave H3 := (Entails.of_eq (bigSep_three fun i => (sv c (cp i) : SP F))) $$ H3
  ihave HF := (Entails.of_eq (bigSep_three fun i => (anyP c (FVs i) : SP F))) $$ HF
  ihave HB := (Entails.of_eq (bigSep_two fun i => (anyP c (BVs i) : SP F))) $$ HB
  icases H1 with ⟨Ha, Hb, Hc⟩
  icases H2 with ⟨Hd, He⟩
  icases H3 with ⟨Hf, Hg, Hh⟩
  icases HF with ⟨F0, F1, F2⟩
  icases HB with ⟨B0, B1⟩
  isplitl [Ha F0]; · isplitl [Ha] <;> iassumption
  isplitl [Hb F1]; · isplitl [Hb] <;> iassumption
  isplitl [Hc F2]; · isplitl [Hc] <;> iassumption
  isplitl [Hd B0]; · isplitl [Hd] <;> iassumption
  isplitl [He B1]; · isplitl [He] <;> iassumption
  isplitl [HA]; · iexact HA
  isplitl [HR]; · iexact HR
  isplitl [HO]; · iexact HO
  isplitl [Hf]; · iexact Hf
  isplitl [Hg] <;> iassumption

theorem idle_elim : (idle c : SP F) ⊢ iprop(lsems c ∗ scr c) := by
  rw [lsems_eq]
  unfold scr idle idF idB cmn
  iintro ⟨⟨Ha, F0⟩, ⟨Hb, F1⟩, ⟨Hc, F2⟩, ⟨Hd, B0⟩, ⟨He, B1⟩, HA, HR, HO, Hf, Hg, Hh⟩
  isplitl [Ha Hb Hc Hd He Hf Hg Hh]
  · isplitl [Ha Hb Hc]
    · iapply (Entails.of_eq (bigSep_three fun i => (sv c (cfl i) : SP F)).symm)
      isplitl [Ha]; · iexact Ha
      isplitl [Hb] <;> iassumption
    isplitl [Hd He]
    · iapply (Entails.of_eq (bigSep_two fun i => (sv c (cst i) : SP F)).symm)
      isplitl [Hd] <;> iassumption
    · iapply (Entails.of_eq (bigSep_three fun i => (sv c (cp i) : SP F)).symm)
      isplitl [Hf]; · iexact Hf
      isplitl [Hg] <;> iassumption
  isplitl [F0 F1 F2]
  · iapply (fv_join c)
    iapply (Entails.of_eq (bigSep_three fun i => (anyP c (FVs i) : SP F)).symm)
    isplitl [F0]; · iexact F0
    isplitl [F1] <;> iassumption
  isplitl [B0 B1]
  · iapply (bv_join c)
    iapply (Entails.of_eq (bigSep_two fun i => (anyP c (BVs i) : SP F)).symm)
    isplitl [B0] <;> iassumption
  isplitl [HA]; · iexact HA
  isplitl [HR] <;> iassumption

/-! ## Before and after the body -/

/-- What a device starts from, -/
def start : SP F :=
  iprop((∃ K, ctx m K ∗ linear c) ∗ (cred (tallyAt (bar c) () 3) ∗ bigSep Finset.univ (crR c))
    ∗ (bigSep Finset.univ (xP m c) ∗ bigSep Finset.univ (xP m c)) ∗ anyP c OUT ∗ anyP c RECV ∗ anyP c XBB)
def Φ₀ : SP F := iprop(start m c ∗ scr c)
/-- what it leaves: its result in chunks, every semaphore back at zero. -/
def fin : SP F :=
  iprop(unscopedSems0 c ∗ ∃ V : S16384x1024.Idx → Elt F .bf16, ⌜∀ t, (fun j => V ((rT c t).emb j)) = outV m c t⌝ ∗ owns (c : Thread nD τ) OUT fullShare V)
def Φ₁ : SP F := iprop(fin m c ∗ ownS c ∗ scr c)

theorem taskRes_intro : iprop(bigSep Finset.univ (crR c) ∗ (bigSep Finset.univ fun t => atR c t 0) ∗ bigSep Finset.univ (xP m c)
      ∗ bigSep Finset.univ fun t : Task => anyP c ((t.ch.blk c).of OUT)) ⊢ (bigSep Finset.univ (taskRes m c) : SP F) := by
  rw [← bigSep_sep', ← bigSep_sep', ← bigSep_sep']
  exact bigSep_mono fun t _ => by unfold taskRes xP; exact BI.Entails.refl _

theorem xs_of (Φ : Task → SP F) : bigSep Finset.univ Φ ⊢ bigSepL (xs 12 0) Φ := by
  rw [bigSep_pays]; iintro ⟨H, -⟩; iexact H

theorem pre_intro : iprop(Φ₀ m c ∗ ∃ W, owes (c : Thread nD τ) (O₀ c) W) ⊢ (iprop(∃ K, ctx m K ∗ bodyPre m c) : SP F) := by
  unfold Φ₀ start linear payToks bodyPre
  iintro ⟨⟨⟨⟨%K, #Hctx, Hat, ⟨Hb, Htok⟩, Hls⟩, ⟨HcB, HcR⟩, ⟨Hx1, Hx2⟩, Hout, Hrecv, Hxbb⟩, Hscr⟩, HO⟩
  ihave Hat := (Entails.of_eq (at_split (F := F) c 0)) $$ Hat
  icases Hat with ⟨⟨HaS, HaR⟩, HaB⟩
  iexists K
  isplitr; · iexact Hctx
  isplitl [HO]; · iexact HO
  isplitl [Hb]; · iexact Hb
  isplitl [Hrecv]; · unfold anyR; iapply (any_chunks c RECV); iexact Hrecv
  isplitl [HcB]; · iexact HcB
  isplitl [HaB]; · iexact HaB
  isplitl [Htok]; · iexact Htok
  isplitl [HcR HaR Hx1 Hout]
  · iapply (taskRes_intro m c)
    isplitl [HcR]; · iexact HcR
    isplitl [HaR]; · iexact HaR
    isplitl [Hx1]; · iexact Hx1
    iapply (any_chunks c OUT); iexact Hout
  isplitl [HaS]; · iexact HaS
  isplitl [Hx2]; · iapply (xs_of (xP m c)); iexact Hx2
  isplitl [Hxbb]
  · iapply (xs_of (bP c))
    unfold bP; iapply (any_chunks c XBB); iexact Hxbb
  iapply (idle_intro c)
  isplitl [Hls] <;> iassumption

/-- A cell whose round is over gives its counter back at zero. -/
theorem close_one (K : Dev nD × KC → ℕ) (k : KC) : iprop(ctx m K ∗ atPos ER (kcell (c, k)) (0 + 1) ∅ 0) ⊢ (|={Set.univ}=> semVal (kcell (c, k)) 0 : SP F) := by
  iintro ⟨#Hctx, Hat⟩
  iapply (Rounds.cell_close ER (Rd m) (Set.mem_univ (K (c, k))) (fun h => h) (R := 0 + 1) (duties_later m (kcell (c, k))))
  isplitr; · iapply (ctx_inv m K (c, k)); iexact Hctx
  iexact Hat
theorem close_all (K : Dev nD × KC → ℕ) : iprop(ctx m K ∗ bigSep Finset.univ fun k => atPos ER (kcell (c, k)) (0 + 1) ∅ 0)
    ⊢ (|={Set.univ}=> bigSep Finset.univ fun k => semVal (kcell (c, k)) 0 : SP F) :=
  (BI.bigSep_with_persistent (S := Finset.univ) (R := ctx m K) (Φ := fun k => atPos ER (kcell (c, k)) (0 + 1) ∅ 0)
    (Ψ := fun k => iprop(|={Set.univ}=> semVal (kcell (c, k)) 0)) fun k _ => close_one m c K k).trans (bigSep_fupd _ _)

theorem taskDone_elim : (bigSep Finset.univ (taskDone m c) : SP F)
    ⊢ iprop((bigSep Finset.univ fun t : Task => owns (c : Thread nD τ) ((t.ch.blk c).of OUT) fullShare (outV m c t)) ∗ bigSep Finset.univ fun t => atR c t (0 + 1)) := by
  rw [← bigSep_sep']
  exact bigSep_mono fun t _ => by unfold taskDone; exact BI.Entails.refl _

theorem post_exit (K : Dev nD × KC → ℕ) : iprop(ctx m K ∗ bodyPost m c) ⊢ (|={Set.univ}=> iprop(owesX c [] ∗ Φ₁ m c) : SP F) := by
  unfold bodyPost Φ₁ fin
  iintro ⟨#Hctx, HO, HaB, Hdone, HaS, Hidle⟩
  ihave Hd := (taskDone_elim m c) $$ Hdone
  icases Hd with ⟨Hout, HaR⟩
  imod (close_all m c K) $$ [HaB HaR HaS] with Hv
  · isplitr; · iexact Hctx
    iapply (Entails.of_eq (at_split (F := F) c (0 + 1)).symm)
    isplitl [HaS HaR]
    · isplitl [HaS] <;> iassumption
    iexact HaB
  ihave Hi := (idle_elim c) $$ Hidle
  icases Hi with ⟨Hls, Hscr⟩
  ihave Hs := (sems0_back (F := F) c) $$ [Hv Hls]
  · isplitl [Hv] <;> iassumption
  icases Hs with ⟨Hu, Hown⟩
  imodintro
  isplitl [HO]; · iexact HO
  isplitr [Hown Hscr]
  · isplitl [Hu]; · iexact Hu
    iapply (chunks_own c (outV m c) OUT); iexact Hout
  isplitl [Hown] <;> iassumption

/-! ## The body obligation -/

def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem WP_fupd {α : Type} (p : PG F α) (Q : α → SP F) : WP c p (fun a => iprop(|={Set.univ}=> Q a)) ⊢ WP c p Q := wp_fupd _ _ _ p Q

/-- The device reads its number, then runs the script. -/
theorem wp_script' (K : Dev nD × KC → ℕ) (Q : PUnit → SP F) : iprop(ctx m K ∗ bodyPre m c ∗ (iprop(Φ₁ m c ∗ owesX c []) -∗ Q ⟨⟩))
    ⊢ WP c (bodyAt0 (F := F) t0_0) Q := by
  have h : WP c (bodyAt0 (F := F) t0_0) Q = WP c (script c) Q := by
    rw [body_eq_script]
    simp only [Prog.lift, Prog.bind_op, Prog.bind_ret, WP, wp_deviceId]
  rw [h]
  iintro ⟨#Hctx, Hp, Hk⟩
  iapply (WP_fupd c (script c) Q)
  iapply (wp_script m K c)
  isplitr; · iexact Hctx
  isplitl [Hp]; · iexact Hp
  iintro Hpost
  imod (post_exit m c K) $$ [Hpost] with H
  · isplitr; · iexact Hctx
    iexact Hpost
  icases H with ⟨HO, HΦ⟩
  imodintro
  iapply Hk
  isplitl [HΦ] <;> iassumption

theorem wp_body (Q : PUnit → SP F) : iprop(Φ₀ m c ∗ (∃ W, owes (c : Thread nD τ) (O₀ c) W) ∗ (iprop(Φ₁ m c ∗ owesX c []) -∗ Q ⟨⟩))
    ⊢ WP c (bodyAt0 (F := F) t0_0) Q := by
  iintro ⟨HΦ, HO, Hk⟩
  ihave Hp := (pre_intro m c) $$ [HΦ HO]
  · isplitl [HΦ] <;> iassumption
  icases Hp with ⟨%K, #Hctx, Hp⟩
  iapply (wp_script' m c K Q)
  isplitr; · iexact Hctx
  isplitl [Hp] <;> iassumption

theorem owesAt_in : (dats (F := F) m 0 c).owesAt () t0_0.castSucc ⊢ (iprop(∃ W, owes (c : Thread nD τ) (O₀ c) W) : SP F) := by
  unfold Dat.owesAt Pipeline.owesWithin
  iintro ⟨%W, -, HO⟩
  iexists W; iexact HO
theorem owesAt_out : (owesX c [] : SP F) ⊢ (dats (F := F) m 0 c).owesAt () t0_0.succ := by
  unfold Dat.owesAt Pipeline.owesWithin owesX
  iintro ⟨%W, HO⟩
  iexists W
  isplitr; · ipureintro; exact fun _ _ => Or.inl trivial
  iexact HO

theorem wp_body' (O R O' R' : SP F) (hO : O ⊢ (iprop(∃ W, owes (c : Thread nD τ) (O₀ c) W) : SP F)) (hO' : (owesX c [] : SP F) ⊢ O')
    (hR : (BI.emp : SP F) ⊢ R') : iprop(Φ₀ m c ∗ O ∗ R) ⊢ WP c (bodyAt0 (F := F) t0_0) fun _ => iprop(Φ₁ m c ∗ O' ∗ R') := by
  iintro ⟨HΦ, HO, -⟩
  iapply (wp_body m c)
  isplitl [HΦ]; · iexact HΦ
  isplitl [HO]; · iapply hO; iexact HO
  iintro ⟨HΦ, HO⟩
  isplitl [HΦ]; · iexact HΦ
  isplitl [HO]; · iapply hO'; iexact HO
  iapply hR; iempintro

theorem body_obligation : BodyObligation (dats (F := F) m 0 c) (defs₀ (F := F)) 𝒱₀ () Set.univ := fun t => by
  rw [fin_N0 t]
  refine wp_body' m c _ _ _ _ (owesAt_in m c) (owesAt_out m c) ?_
  rw [show (Finset.univ : Finset (Fin cfg0.W)) = ∅ from rfl, bigSep_empty]

/-! ## The launch's conditions -/

theorem share_eq (w : Fin cfg0.W) : (dats m 0 c).share w = fullShare := w.elim0

theorem waits : (levAts L lv : SP F) ⊢ Pipeline.cellsWaits cfgs (dats m) () 0 c :=
  Pipeline.cellsWaits_intro cfgs (dats m) () 0 c fun w s t => w.elim0

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(start m c ∗ owns (c : Thread nD τ) X fullShare.right (argV m c)) : SP F) := by
  rw [Pipeline.unscopedRestP_none, unscopedRest0_eq]
  unfold G' start ctx
  iintro ⟨⟨Ha, H0, H1, H2⟩, #Hlev, Hcr, -, ⟨%K, #Hrec, Hlin⟩⟩
  ihave Hx := (x_split m c) $$ [Ha]
  · unfold X; rw [owns_whole]; iexact Ha
  icases Hx with ⟨Hx, Hz⟩
  ihave Hc := (creds (F := F) c) $$ Hcr
  imodintro
  isplitr [Hz]; swap; · iexact Hz
  isplitl [Hlin]
  · iexists K
    isplitr
    · isplitr; · iexact Hrec
      iexact Hlev
    iexact Hlin
  isplitl [Hc]; · iexact Hc
  isplitl [Hx]; · iexact Hx
  unfold OUT RECV XBB
  rw [any_whole, any_whole, any_whole]
  isplitl [H0]; · iexists _; iexact H0
  isplitl [H1]; · iexists _; iexact H1
  iexists _; iexact H2

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scoped_eq]
  unfold Φ₀
  iintro ⟨Hs, -, Hr⟩
  isplitl [Hs] <;> iassumption

theorem phi1_exit : (dats m 0 c).Φ (Fin.last cfg0.N) ⊢ iprop(fin m c ∗ ownS c ∗ Pipeline.scopedRest cfg0.spec c) := by
  rw [show (dats m 0 c).Φ (Fin.last cfg0.N) = Φ₁ m c from rfl, scoped_eq]
  exact BI.Entails.refl _

/-- What device `c`'s part of the final memory is. -/
def Final (s : MemSt nD τ sig (Elt F)) : Prop :=
  (∀ t : Task, (fun j => (s.mem ((c : Thread nD τ).loc main_v1_0) : S16384x1024.Idx → Elt F .bf16) ((rT c t).emb j)) = outV m c t)
    ∧ s.mem ((c : Thread nD τ).loc main_arg0) = m ((c : Thread nD τ).loc main_arg0)
    ∧ ∀ sm : SemLoc sig, sm.isScoped .tc = false → s.sem ((c : Thread nD τ), sm) = 0

theorem final_read (s' : Phys nD τ sig (Elt F)) :
    iprop(fin m c ∗ owns (c : Thread nD τ) X fullShare.right (argV m c) ∗ SI s') ⊢ (|={Set.univ}=> iprop(⌜Final m c s'.mem⌝ ∗ SI s') : SP F) := by
  unfold fin X OUT
  simp only [owns_whole]
  iintro ⟨⟨Hu, %V, %hV, Ho⟩, Hx, HSI⟩
  icombine HSI Hx gives %hx
  icombine HSI Ho gives %ho
  imod (Pipeline.unscopedSems0_read (X := unscopedSems0 c) (c := c) fupd_intro s') $$ [Hu HSI] with H
  · isplitl [Hu] <;> iassumption
  icases H with ⟨%hs, HSI⟩
  imodintro
  isplitr; swap; · iexact HSI
  ipureintro
  refine ⟨fun t => ?_, Buf.eq_of_forall_mem_univ hx, hs⟩
  rw [← hV t, Buf.eq_of_forall_mem_univ ho]

/-! ## The run -/

/-- From any memory with every counter at zero, every fair execution of the kernel on all devices ends, with every chunk of
    every device's result at the sum of its rows and those received, the argument unchanged and every counter at zero. -/
theorem run_main : θ_run defs (onTc (τ := τ) (main (F := F))) ⟨m, fun _ => 0, ρ⟩ (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_all m) $$ HX with HG
      imodintro
      isplitl [HP] <;> iassumption)
    (hglob := glob m)
    (hA := fun _ _ => rfl) (hpf := fun _ k => k.elim0)
    (X := start m) (Y := fin m) (Z := fun c => owns (c : Thread nD τ) X fullShare.right (argV m c))
    (hX := start_intro m ρ) (hin := phi0_intro m) (hout := phi1_exit m)
    (QY := Final m) (hY := final_read m)
    (hQ := fun _ h hs => ⟨fun c => (h c).2.2, sem_eq_zero hs fun c => (h c).2.2.2.2⟩)

end Cert.KernelIdeal.RS

end
-- ==== Proof.Value.lean ====
/- The value: at the ideal values every device ends holding the sum of the two halves of the whole array, which is what
   the reference computes. -/
module

public import proofs.«01_k».proof.Proof.Run
public import proofs.«01_k».proof.Proof.Gen.ReferenceIdeal.Run
public import Idealize.ShloMosaic.Lib.Layout
public import Idealize.ShloMosaic.Lib.Pointwise.Reduce
public import Idealize.ShloMosaic.Lib.Pointwise.Reshape
public import Idealize.ShloMosaic.PureOps.Ideal.Laws

@[expose] public section

set_option maxRecDepth 10000

noncomputable section

namespace Cert.KernelIdeal.RS

open Idealize.ShloMosaic Idealize.ShloMosaic.TcCoe Idealize.SL.Sem
open Cert.KernelIdeal.Gen

/-! ## The two halves of the whole array -/

/-- Row `r` of half `k` of the whole array, same column. -/
def half (k : Fin 2) (i : S16384x1024.Idx) : Cert.ReferenceIdeal.S32768x1024.Idx :=
  ix2 (⟨k.val * 16384 + (i 0).val, by
      have h : (i 0 : ℕ) < 16384 := (i 0).isLt
      have := k.isLt
      omega⟩ : Fin 32768) (⟨(i 1).val, (i 1).isLt⟩ : Fin 1024)

/-- The half a device holds. -/
def hf (c : Dev nD) : Fin 2 := ⟨c.val / 8, by have h : c.val < 16 := c.isLt; omega⟩

/-- What a device receives comes from a device holding the other half. -/
theorem hf_org (t : Task) (c : Dev nD) : hf (t.org c) = 1 - hf c := by revert t c; decide +kernel

theorem mesh_lin (c : Dev nD) : Layout.meshLin [2, 2, 4] c.val [0] = (hf c).val := by revert c; decide +kernel

/-- A device's block of the whole array is its half. -/
theorem block_half (c : Dev nD) (w : Cert.ReferenceIdeal.S32768x1024.Idx → EReal) (i : S16384x1024.Idx) :
    Layout.blockN ⟨2, ![16384, 1024]⟩ ⟨2, ![32768, 1024]⟩ (Layout.meshBlock [2, 2, 4] ![[0], []] c) w (by decide) i = w (half (hf c) i) := by
  rw [Layout.blockN_apply]
  refine congrArg w (funext fun b => Fin.ext ?_)
  rw [Layout.TilesN.idx_val, Layout.meshBlock_val]
  match b with
  | 0 => exact congrArg (· * 16384 + (i 0).val) (mesh_lin c)
  | 1 => exact (congrArg (· + (i 1).val) (Nat.zero_mul 1024)).trans (Nat.zero_add _)

/-! ## The kernel's side -/

variable (m : (ℓ : Loc nD τ sig) → Buf (Elt Ideal) ℓ)

/-- What device `c` holds of the array, as extended reals. -/
abbrev argI (c : Dev nD) : S16384x1024.Idx → EReal := m ((c : Thread nD τ).loc main_arg0)

/-- A chunk of the result: the device's own rows plus the same rows of the device they came from. -/
theorem outV_apply (c : Dev nD) (t : Task) (j : S512x1024.Idx) :
    outV m c t j = argI m c ((rT c t).emb j) + argI m (t.org c) ((rT c t).emb j) := by
  unfold outV k0_pay14
  exact congrFun (shapeCast_id _ _) j

/-- So where the devices hold halves of `w`, every device's result is the sum of the two halves. -/
theorem final_value (w : Cert.ReferenceIdeal.S32768x1024.Idx → EReal)
    (hw : ∀ c : Dev nD, ∀ i, argI m c i = w (half (hf c) i))
    (c : Dev nD) (s : MemSt nD τ sig (Elt Ideal)) (h : Final m c s) (i : S16384x1024.Idx) :
    (s.mem ((c : Thread nD τ).loc main_v1_0) i : EReal) = w (half 0 i) + w (half 1 i) := by
  obtain ⟨t, ht⟩ := exists_rT c i
  rw [← Rect.map_emb_univ] at ht
  obtain ⟨j, -, rfl⟩ := Finset.mem_map.mp ht
  refine (congrFun (h.1 t) j).trans ((outV_apply m c t j).trans ?_)
  rw [hw, hw, hf_org]
  match hf c with
  | 0 => rfl
  | 1 => exact add_comm _ _

/-! ## The reference's side -/

/-- The reference's term at an index: the sum of the two halves there. -/
theorem ref_value (w : Cert.ReferenceIdeal.S32768x1024.Idx → EReal) (i : S16384x1024.Idx) :
    (truncf (F := Ideal) .bf16 (Host.reduceAdd (extf .f32 (shapeCast _ (truncf (F := Ideal) (φ := .f32) .bf16 w Cert.ReferenceIdeal.Gen.bitsLt_bf16_f32)
      Cert.ReferenceIdeal.Gen.shapeCasts_S32768x1024_S2x16384x1024) Cert.ReferenceIdeal.Gen.bitsLt_bf16_f32) (constant Cert.ReferenceIdeal.S_ .f32 0x00000000#32)
      Cert.ReferenceIdeal.Gen.reducesTo_S2x16384x1024_S16384x1024_d0 Cert.ReferenceIdeal.Gen.h_S_) Cert.ReferenceIdeal.Gen.bitsLt_bf16_f32 i : EReal)
      = w (half 0 i) + w (half 1 i) := by
  have e : ∀ k : Fin 2, shapeCast Cert.ReferenceIdeal.S2x16384x1024 w Cert.ReferenceIdeal.Gen.shapeCasts_S32768x1024_S2x16384x1024
      (ix3 k (⟨(i 0).val, (i 0).isLt⟩ : Fin 16384) (⟨(i 1).val, (i 1).isLt⟩ : Fin 1024)) = w (half k i) := fun k => by
    refine shapeCast_apply _ _ _ _ ?_
    rw [rowMajor_val2 _ 1024 rfl, rowMajor_val3 _ (16384 * 1024) 1024 rfl rfl]
    simp only [half, ix2, ix3]
    omega
  have r := Ideal.hostReduceAdd_r3_a0 (n0 := 2) (n1 := 16384) (n2 := 1024) Cert.ReferenceIdeal.Gen.reducesTo_S2x16384x1024_S16384x1024_d0
    (shapeCast Cert.ReferenceIdeal.S2x16384x1024 w Cert.ReferenceIdeal.Gen.shapeCasts_S32768x1024_S2x16384x1024) (Ideal.ofBits .f32 0x00000000#32) i
  have z : Ideal.hostReduceAdd Cert.ReferenceIdeal.Gen.reducesTo_S2x16384x1024_S16384x1024_d0
      (shapeCast Cert.ReferenceIdeal.S2x16384x1024 w Cert.ReferenceIdeal.Gen.shapeCasts_S32768x1024_S2x16384x1024) (Ideal.ofBits .f32 0x00000000#32) i
      = w (half 0 i) + w (half 1 i) := by
    rw [r, Fin.sum_univ_two, Ideal.ofBits_zero_f32, zero_add]
    exact congrArg₂ (· + ·) (e 0) (e 1)
  refine Eq.trans ?_ z
  unfold truncf extf
  simp only [Ideal.truncf_def, Ideal.extf_def]
  rw [Host.reduceAdd_apply, Ideal.hostReduceAdd_def]
  rfl

end Cert.KernelIdeal.RS

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as compiled runs, leaves its argument unchanged and every semaphore at zero: the run of `RS.run_main`,
    which is for any float values, at the bit-exact ones (the two printed programs are one text). -/
theorem frame_kernel : Cert.quiescent_Kernel (hKernel := Cert.Kernel.Gen.facts) := fun m ρ _ =>
  (θ_run (Cert.KernelIdeal.defs (F := Bits)) _ _).mono (fun _ h => ⟨fun c => (h.1 c).2.1, h.2⟩)
    (Cert.KernelIdeal.RS.run_main (F := Bits) m ρ)

/-- The same of its idealization. -/
theorem frame_kernelIdeal : Cert.quiescent_KernelIdeal (hKernelIdeal := Cert.KernelIdeal.Gen.facts) := fun m ρ _ =>
  (θ_run (Cert.KernelIdeal.defs (F := Ideal)) _ _).mono (fun _ h => ⟨fun c => (h.1 c).2.1, h.2⟩)
    (Cert.KernelIdeal.RS.run_main (F := Ideal) m ρ)

/-- The reference runs and leaves its argument unchanged; it has no semaphore. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- At the ideal values every device's result is the reference's: at each index both are the sum of the array's two
    halves there. -/
theorem value : Cert.algebraic_KernelIdeal_ReferenceIdeal (hKernelIdeal := Cert.KernelIdeal.Gen.facts)
    (hReferenceIdeal := Cert.ReferenceIdeal.Gen.facts) := fun m ρ m' ρ' _ hm => by
  have hw : ∀ (c : Dev Cert.KernelIdeal.nD) i, Cert.KernelIdeal.RS.argI m c i = _ := fun c i =>
    (congrFun (hm c) i).trans (Cert.KernelIdeal.RS.block_half c _ i)
  refine ⟨fun i => _, (θ_run (Cert.KernelIdeal.defs (F := Ideal)) _ _).mono (fun r h c => ⟨funext fun i =>
      Cert.KernelIdeal.RS.final_value m _ hw c r.2 (h.1 c) i, (h.1 c).2.1⟩) (Cert.KernelIdeal.RS.run_main (F := Ideal) m ρ),
    (θ_run (Cert.ReferenceIdeal.defs (F := Ideal)) _ _).mono (fun r h => ⟨(h 0).1.trans (funext fun i =>
      Cert.KernelIdeal.RS.ref_value _ i), (h 0).2⟩) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, value⟩

end Cert.Proof

end
